-- ==== Defs.lean ====
def Pre_Kernel [hPre_labels : Cert.Pre_labels.Facts] (m : (ℓ : Loc Cert.Kernel.nD Cert.Kernel.τ Cert.Kernel.sig) → Buf (Elt Bits) ℓ) : Prop :=
  ∀ c : Dev Cert.Kernel.nD,
    (Cert.Pre_labels.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels : Cert.Pre_labels.Facts] (m : (ℓ : Loc Cert.KernelIdeal.nD Cert.KernelIdeal.τ Cert.KernelIdeal.sig) → Buf (Elt Ideal) ℓ) : Prop :=
  ∀ c : Dev Cert.KernelIdeal.nD,
    (Cert.Pre_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels : Cert.Pre_labels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels : Cert.Pre_labels.Facts) (hPre_inputs : Cert.Pre_inputs.Facts),
    quiescent_Kernel (hKernel := hKernel) (hPre_labels := hPre_labels)
    ∧ quiescent_KernelIdeal (hKernelIdeal := hKernelIdeal) (hPre_labels := hPre_labels)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x1000 : S_.BroadcastsInDim S16384x1000 (![] : Fin 0 → Fin S16384x1000.rank)
  reducesTo_S16384x1000_S_d0_1 : S16384x1000.ReducesTo [0, 1] S_

variable [Facts]

def fn {F : FTy → Type} [FloatOps F] (main_arg0 : FVec F S16384x1000 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S16384x1000 .f32 := Host.absf main_arg0
  let main_cst : FVec F S_ .f32 := constant S_ .f32 0x7F800000#32
  let main_v7 : FVec F S16384x1000 .f32 := broadcastInDim S16384x1000 ![] bcast_S_S16384x1000 main_cst
  let main_v8 : IVec S16384x1000 1 := cmpf .olt main_v6 main_v7
  let main_c_2 : IVec S_ 1 := constantI S_ 1 1#1
  let main_v9 : IVec S_ 1 := (fun x v => Host.reduce IntOp.andi x v reducesTo_S16384x1000_S_d0_1 h_S_) main_v8 main_c_2
  let main_v10 : IVec S_ 1 := andi main_v5 main_v9
  main_v10
-- ==== Pre_labels.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1000 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x1000 : Shape := ⟨2, ![16384, 1000]⟩
abbrev S16384 : Shape := ⟨1, ![16384]⟩
abbrev S1000x16384 : Shape := ⟨2, ![1000, 16384]⟩
abbrev S1x16384 : Shape := ⟨2, ![1, 16384]⟩
abbrev S2048 : Shape := ⟨1, ![2048]⟩
abbrev S1000x2048 : Shape := ⟨2, ![1000, 2048]⟩
abbrev S1x2048 : Shape := ⟨2, ![1, 2048]⟩
abbrev S16 : Shape := ⟨1, ![16]⟩
abbrev S8x128 : Shape := ⟨2, ![8, 128]⟩
abbrev S128 : Shape := ⟨1, ![128]⟩
abbrev S1024 : Shape := ⟨1, ![1024]⟩
abbrev S512 : Shape := ⟨1, ![512]⟩
abbrev S_ : Shape := ⟨0, ![]⟩
abbrev S1x128 : Shape := ⟨2, ![1, 128]⟩
abbrev S1x16 : Shape := ⟨2, ![1, 16]⟩
abbrev S1x1 : Shape := ⟨2, ![1, 1]⟩
abbrev S1x1x16384 : Shape := ⟨3, ![1, 1, 16384]⟩
abbrev S1 : Shape := ⟨1, ![1]⟩
abbrev S1x1x1 : Shape := ⟨3, ![1, 1, 1]⟩
abbrev S1x1x16 : Shape := ⟨3, ![1, 1, 16]⟩

abbrev nBuf : Table → Nat
  | .hbm => 10
  | .local .tc .vmem => 10
  | .shared => 1
  | .local .scVector .vmem => 6
  | _ => 0

abbrev bufTy : (tb : Table) → Fin (nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S1x16384, .f32⟩
  | .hbm, ⟨4, _⟩ => ⟨S16384, .f32⟩
  | .hbm, ⟨5, _⟩ => ⟨S16, .f32⟩
  | .hbm, ⟨6, _⟩ => ⟨S1x16384, .f32⟩
  | .hbm, ⟨7, _⟩ => ⟨S1x16, .f32⟩
  | .hbm, ⟨8, _⟩ => ⟨S1x1, .f32⟩
  | .hbm, ⟨9, _⟩ => ⟨S_, .f32⟩
  | .local .tc .vmem, ⟨0, _⟩ => ⟨S2048, .i32⟩
  | .local .tc .vmem, ⟨1, _⟩ => ⟨S2048, .i32⟩
  | .local .tc .vmem, ⟨2, _⟩ => ⟨S1000x2048, .f32⟩
  | .local .tc .vmem, ⟨3, _⟩ => ⟨S1000x2048, .f32⟩
  | .local .tc .vmem, ⟨4, _⟩ => ⟨S1x2048, .f32⟩
  | .local .tc .vmem, ⟨5, _⟩ => ⟨S1x2048, .f32⟩
  | .local .tc .vmem, ⟨6, _⟩ => ⟨S1x16384, .f32⟩
  | .local .tc .vmem, ⟨7, _⟩ => ⟨S1x16384, .f32⟩
  | .local .tc .vmem, ⟨8, _⟩ => ⟨S1x16, .f32⟩
  | .local .tc .vmem, ⟨9, _⟩ => ⟨S1x1, .f32⟩
  | .shared, ⟨0, _⟩ => ⟨S1024, .f32⟩
  | .local .scVector .vmem, ⟨0, _⟩ => ⟨S8x128, .i32⟩
  | .local .scVector .vmem, ⟨1, _⟩ => ⟨S128, .f32⟩
  | .local .scVector .vmem, ⟨2, _⟩ => ⟨S1024, .f32⟩
  | .local .scVector .vmem, ⟨3, _⟩ => ⟨S512, .i32⟩
  | .local .scVector .vmem, ⟨4, _⟩ => ⟨S512, .f32⟩
  | .local .scVector .vmem, ⟨5, _⟩ => ⟨S16, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | ⟨28, _⟩ => true
  | _ => false

abbrev sig : RefSig :=
  ofTables nBuf rfl bufTy 5 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_arg1_scv : Ref sig .scVector := ⟨.hbm, 1, rfl⟩
abbrev main_v2_0_scv : Ref sig .scVector := ⟨.hbm, 4, rfl⟩
abbrev main_v2_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc1_scratch3 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch4 : Ref sig .scVector := ⟨.vmem, 3, rfl⟩
abbrev cc1_scratch5 : Ref sig .scVector := ⟨.vmem, 4, rfl⟩
abbrev cc1_scratch6 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 25
abbrev cc2_sem1_0 : DmaSem sig := 26
abbrev cc2_sem2_0 : DmaSem sig := 27
abbrev cc2_sem3_0 : DmaSem sig := 28
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v4 : BitVec 32 := Scalar.muli v1 c512_i32
  ![v4.toNat]
@[reducible] def k1_t1_loop : Scf.Loop 32 :=
  let c0_i32_1 : BitVec 32 := 0#32
  let c64_i32 : BitVec 32 := 64#32
  let v5 : BitVec 32 := Scalar.addi c0_i32_1 c64_i32
  let c1_i32 : BitVec 32 := 1#32
  ⟨c0_i32_1, v5, c1_i32⟩
def k1_off2 (k1_t1 : Fin k1_t1_loop.trips) : Fin 1 → Nat :=
  let c0_i32_1 : BitVec 32 := 0#32
  let c1_i32 : BitVec 32 := 1#32
  let arg12 : BitVec 32 := Scf.iv c0_i32_1 c1_i32 k1_t1
  let c16_i32_21 : BitVec 32 := 16#32
  let v25 : BitVec 32 := Scalar.muli arg12 c16_i32_21
  let v26 : Index := Scalar.indexCast v25
  ![v26.toNat]
@[reducible] def k1_t2_loop : Scf.Loop 32 :=
  let c0_i32_4 : BitVec 32 := 0#32
  let c8_i32 : BitVec 32 := 8#32
  let v6 : BitVec 32 := Scalar.addi c0_i32_4 c8_i32
  let c1_i32_5 : BitVec 32 := 1#32
  ⟨c0_i32_4, v6, c1_i32_5⟩
def k1_off3 (k1_t2 : Fin k1_t2_loop.trips) : Fin 1 → Nat :=
  let c0_i32_4 : BitVec 32 := 0#32
  let c1_i32_5 : BitVec 32 := 1#32
  let arg12 : BitVec 32 := Scf.iv c0_i32_4 c1_i32_5 k1_t2
  let c16_i32_21 : BitVec 32 := 16#32
  let v25 : BitVec 32 := Scalar.muli arg12 c16_i32_21
  let v26 : Index := Scalar.indexCast v25
  ![v26.toNat]
def k1_off4 (i : grid1.Coords) (c0_i32_7 : BitVec 32) : Fin 1 → Nat :=
  let arg1 : BitVec 32 := BitVec.ofNat 32 (i 1).val
  let c1024_i32 : BitVec 32 := 1024#32
  let v7 : BitVec 32 := Scalar.muli arg1 c1024_i32
  let v8 : BitVec 32 := Scalar.addi v7 c0_i32_7
  ![v8.toNat]
@[reducible] def k1_t3_loop : Scf.Loop 32 :=
  let c0_i32_15 : BitVec 32 := 0#32
  let c16_i32 : BitVec 32 := 16#32
  let v19 : BitVec 32 := Scalar.addi c0_i32_15 c16_i32
  let c1_i32_16 : BitVec 32 := 1#32
  ⟨c0_i32_15, v19, c1_i32_16⟩
def k1_cond2 (i : grid1.Coords) (k1_t3 : Fin k1_t3_loop.trips) : BitVec 1 :=
  let arg1 : BitVec 32 := BitVec.ofNat 32 (i 1).val
  let c0_i32_15 : BitVec 32 := 0#32
  let c1_i32_16 : BitVec 32 := 1#32
  let arg12 : BitVec 32 := Scf.iv c0_i32_15 c1_i32_16 k1_t3
  let v25 : BitVec 1 := Scalar.cmpi .eq arg1 arg12
  let v26 : BitVec 32 := Scalar.extui v25
  let c0_i32_21 : BitVec 32 := 0#32
  let v27 : BitVec 1 := Scalar.cmpi .ne v26 c0_i32_21
  v27

@[reducible] def k1_t4_loop : Scf.Loop 32 :=
  let c0_i32_24 : BitVec 32 := 0#32
  let c64_i32_25 : BitVec 32 := 64#32
  let v28 : BitVec 32 := Scalar.addi c0_i32_24 c64_i32_25
  let c1_i32_26 : BitVec 32 := 1#32
  ⟨c0_i32_24, v28, c1_i32_26⟩
def k1_off5 (k1_t4 : Fin k1_t4_loop.trips) : Fin 2 → Nat :=
  let c0_i32_24 : BitVec 32 := 0#32
  let c1_i32_26 : BitVec 32 := 1#32
  let arg13 : BitVec 32 := Scf.iv c0_i32_24 c1_i32_26 k1_t4
  let c3_i32_28 : BitVec 32 := 3#32
  let v29 : BitVec 32 := Scalar.shrsi arg13 c3_i32_28
  let v32 : Index := Scalar.indexCast v29
  let c7_i32_29 : BitVec 32 := 7#32
  let v30 : BitVec 32 := Scalar.andi arg13 c7_i32_29
  let c16_i32_30 : BitVec 32 := 16#32
  let v31 : BitVec 32 := Scalar.muli v30 c16_i32_30
  let v33 : Index := Scalar.indexCast v31
  ![v32.toNat, v33.toNat]
def k1_off6 (k1_t4 : Fin k1_t4_loop.trips) : Fin 1 → Nat :=
  let c0_i32_24 : BitVec 32 := 0#32
  let c1_i32_26 : BitVec 32 := 1#32
  let arg13 : BitVec 32 := Scf.iv c0_i32_24 c1_i32_26 k1_t4
  let c7_i32_31 : BitVec 32 := 7#32
  let v36 : BitVec 32 := Scalar.andi arg13 c7_i32_31
  let c16_i32_32 : BitVec 32 := 16#32
  let v37 : BitVec 32 := Scalar.muli v36 c16_i32_32
  let v38 : Index := Scalar.indexCast v37
  ![v38.toNat]

def k1_chk1 (i : grid1.Coords) (k1_t3 : Fin k1_t3_loop.trips) (v35 : IVec S16 32) : Prop :=
  (∀ (k1_h2 : k1_cond2 i k1_t3 = 1#1), ∀ a x, ((![v35] : Fin 1 → IVec S16 32) a x).toNat < S1024.size a)
theorem k1_idx1_inb : ∀ (i : grid1.Coords) (k1_t3 : Fin k1_t3_loop.trips) (v35 : IVec S16 32) (k1_hw1 : k1_chk1 i k1_t3 v35), ∀ (k1_h2 : k1_cond2 i k1_t3 = 1#1), ∀ a x, ((![v35] : Fin 1 → IVec S16 32) a x).toNat < S1024.size a := fun i k1_t3 v35 k1_hw1 k1_h2 => k1_hw1 k1_h2
def k1_cond3 (i : grid1.Coords) : BitVec 1 :=
  let arg0 : BitVec 32 := BitVec.ofNat 32 (i 0).val
  let c0_i32_18 : BitVec 32 := 0#32
  let v20 : BitVec 1 := Scalar.cmpi .eq arg0 c0_i32_18
  let arg1 : BitVec 32 := BitVec.ofNat 32 (i 1).val
  let c0_i32_19 : BitVec 32 := 0#32
  let v21 : BitVec 1 := Scalar.cmpi .eq arg1 c0_i32_19
  let v22 : BitVec 1 := Scalar.andi v20 v21
  let v23 : BitVec 32 := Scalar.extui v22
  let c0_i32_20 : BitVec 32 := 0#32
  let v24 : BitVec 1 := Scalar.cmpi .ne v23 c0_i32_20
  v24

@[reducible] def k1_t5_loop : Scf.Loop 32 :=
  let c0_i32_21 : BitVec 32 := 0#32
  let c64_i32_22 : BitVec 32 := 64#32
  let v25 : BitVec 32 := Scalar.addi c0_i32_21 c64_i32_22
  let c1_i32_23 : BitVec 32 := 1#32
  ⟨c0_i32_21, v25, c1_i32_23⟩
def k1_off7 (k1_t5 : Fin k1_t5_loop.trips) : Fin 1 → Nat :=
  let c0_i32_21 : BitVec 32 := 0#32
  let c1_i32_23 : BitVec 32 := 1#32
  let arg12 : BitVec 32 := Scf.iv c0_i32_21 c1_i32_23 k1_t5
  let c16_i32_26 : BitVec 32 := 16#32
  let v30 : BitVec 32 := Scalar.muli arg12 c16_i32_26
  let v31 : Index := Scalar.indexCast v30
  ![v31.toNat]
abbrev grid2 : Pipeline.Grid := .none

abbrev stage2_0 : Fin 1 → Memref sig .tc .vmem S1x16384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x16384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S16384 : Shape := ⟨1, ![16384]⟩
abbrev S_ : Shape := ⟨0, ![]⟩
abbrev S1001 : Shape := ⟨1, ![1001]⟩
abbrev S16384x1 : Shape := ⟨2, ![16384, 1]⟩
abbrev S1000 : Shape := ⟨1, ![1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S1001, .i32⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S_, .i32⟩
  | .hbm, ⟨24, _⟩ => ⟨S16384, .i32⟩
  | .hbm, ⟨25, _⟩ => ⟨S1001, .i32⟩
  | .hbm, ⟨26, _⟩ => ⟨S1000, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S1000, .f32⟩
  | .hbm, ⟨32, _⟩ => ⟨S1000, .f32⟩
  | .hbm, ⟨33, _⟩ => ⟨S1000, .f32⟩
  | .hbm, ⟨34, _⟩ => ⟨S_, .i32⟩
  | .hbm, ⟨35, _⟩ => ⟨S1000, .i32⟩
  | .hbm, ⟨36, _⟩ => ⟨S1000, .i1⟩
  | .hbm, ⟨37, _⟩ => ⟨S_, .f32⟩
  | .hbm, ⟨38, _⟩ => ⟨S1000, .f32⟩
  | .hbm, ⟨39, _⟩ => ⟨S1000, .f32⟩
  | .hbm, ⟨40, _⟩ => ⟨S_, .i32⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1, .f32⟩
  | .hbm, ⟨50, _⟩ => ⟨S16384x1000, .f32⟩
  | .hbm, ⟨51, _⟩ => ⟨S16384x1000, .f32⟩
  | .hbm, ⟨52, _⟩ => ⟨S16384x1000, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1, .f32⟩
  | .hbm, ⟨57, _⟩ => ⟨S16384x1000, .f32⟩
  | .hbm, ⟨58, _⟩ => ⟨S16384x1000, .f32⟩
  | .hbm, ⟨59, _⟩ => ⟨S16384x1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S_, .i32⟩
  | .hbm, ⟨64, _⟩ => ⟨S16384x1, .i32⟩
  | .hbm, ⟨65, _⟩ => ⟨S16384x1, .i32⟩
  | .hbm, ⟨66, _⟩ => ⟨S16384x1, .i32⟩
  | .hbm, ⟨67, _⟩ => ⟨S16384x1x1, .i32⟩
  | .hbm, ⟨68, _⟩ => ⟨S1, .i32⟩
  | .hbm, ⟨69, _⟩ => ⟨S_, .i32⟩
  | .hbm, ⟨70, _⟩ => ⟨S16384x1x1, .i32⟩
  | .hbm, ⟨71, _⟩ => ⟨S16384x1x1, .i1⟩
  | .hbm, ⟨72, _⟩ => ⟨S1x1x1, .i32⟩
  | .hbm, ⟨73, _⟩ => ⟨S16384x1x1, .i32⟩
  | .hbm, ⟨74, _⟩ => ⟨S16384x1x1, .i1⟩
  | .hbm, ⟨75, _⟩ => ⟨S16384x1x1, .i1⟩
  | .hbm, ⟨76, _⟩ => ⟨S_, .i1⟩
  | .hbm, ⟨77, _⟩ => ⟨S16384x1, .i1⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384, .f32⟩
  | .hbm, ⟨83, _⟩ => ⟨S16384, .f32⟩
  | .hbm, ⟨84, _⟩ => ⟨S_, .i32⟩
  | .hbm, ⟨85, _⟩ => ⟨S16384, .i32⟩
  | .hbm, ⟨86, _⟩ => ⟨S16384, .i1⟩
  | .hbm, ⟨87, _⟩ => ⟨S_, .i32⟩
  | .hbm, ⟨88, _⟩ => ⟨S16384, .i32⟩
  | .hbm, ⟨89, _⟩ => ⟨S16384, .i32⟩
  | .hbm, ⟨90, _⟩ => ⟨S16384, .i32⟩
  | .hbm, ⟨91, _⟩ => ⟨S16384x1, .i32⟩
  | .hbm, ⟨92, _⟩ => ⟨S16384, .f32⟩
  | .hbm, ⟨93, _⟩ => ⟨S16384, .f32⟩
  | .hbm, ⟨94, _⟩ => ⟨S16384, .f32⟩
  | .hbm, ⟨95, _⟩ => ⟨S16384, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_c_2 : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_c_3 : Ref sig .tc := ⟨.hbm, 15, rfl⟩
abbrev main_v5 : Ref sig .tc := ⟨.hbm, 16, rfl⟩
abbrev main_v6 : Ref sig .tc := ⟨.hbm, 17, rfl⟩
abbrev main_c_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_c_8 : Ref sig .tc := ⟨.hbm, 40, rfl⟩
abbrev main_call3_v0 : Ref sig .tc := ⟨.hbm, 41, rfl⟩
abbrev main_call3_v1 : Ref sig .tc := ⟨.hbm, 42, rfl⟩
abbrev main_v24 : Ref sig .tc := ⟨.hbm, 43, rfl⟩
abbrev main_call4_cst : Ref sig .tc := ⟨.hbm, 44, rfl⟩
abbrev main_call4_v0 : Ref sig .tc := ⟨.hbm, 45, rfl⟩
abbrev main_call4_cst_0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_v5 : Ref sig .tc := ⟨.hbm, 51, rfl⟩
abbrev main_call4_v6 : Ref sig .tc := ⟨.hbm, 52, rfl⟩
abbrev main_call4_cst_1 : Ref sig .tc := ⟨.hbm, 53, rfl⟩
abbrev main_call4_v7 : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_v25 : Ref sig .tc := ⟨.hbm, 58, rfl⟩
abbrev main_v26 : Ref sig .tc := ⟨.hbm, 59, rfl⟩
abbrev main_call5_c : Ref sig .tc := ⟨.hbm, 60, rfl⟩
abbrev main_call5_v0 : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_v5 : Ref sig .tc := ⟨.hbm, 67, rfl⟩
abbrev main_call5_c_1 : Ref sig .tc := ⟨.hbm, 68, rfl⟩
abbrev main_call5_c_2 : Ref sig .tc := ⟨.hbm, 69, rfl⟩
abbrev main_call5_v6 : Ref sig .tc := ⟨.hbm, 70, rfl⟩
abbrev main_call5_v7 : Ref sig .tc := ⟨.hbm, 71, rfl⟩
abbrev main_call5_v8 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_c_3 : Ref sig .tc := ⟨.hbm, 76, rfl⟩
abbrev main_call5_v12 : Ref sig .tc := ⟨.hbm, 77, rfl⟩
abbrev main_call5_v13 : Ref sig .tc := ⟨.hbm, 78, rfl⟩
abbrev main_call5_cst : Ref sig .tc := ⟨.hbm, 79, rfl⟩
abbrev main_call5_v14 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_9 : Ref sig .tc := ⟨.hbm, 84, rfl⟩
abbrev main_v30 : Ref sig .tc := ⟨.hbm, 85, rfl⟩
abbrev main_v31 : Ref sig .tc := ⟨.hbm, 86, rfl⟩
abbrev main_c_10 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_11 : Ref sig .tc := ⟨.hbm, 96, rfl⟩
abbrev main_v40 : Ref sig .tc := ⟨.hbm, 97, rfl⟩
abbrev main_cst_12 : Ref sig .tc := ⟨.hbm, 98, rfl⟩
abbrev main_v41 : Ref sig .tc := ⟨.hbm, 99, rfl⟩
abbrev main_v42 : Ref sig .tc := ⟨.hbm, 100, rfl⟩

abbrev nD : Nat := 1
abbrev τ : Topo := Topo.v7x

variable {F : FTy → Type} [FloatOps F]
-- ==== Proof.Turns.lean ====
/-
  A subcore barrier met many times on one semaphore, handing resources over at every meeting.

  `n` tiles of one SparseCore meet `T` times at the barrier semaphore `bar`: at meeting `r` each tile signals
  every tile's cell one unit and then waits for `n` units on its own. A signal lands when the machine delivers it,
  so a tile may signal for meeting `r + 1` while a slower one has still to leave meeting `r`: no tile can present
  that another's cell has reached a round. What does hold is said by ONE invariant over all the cells (`body`):
  `A k` meetings tile `k` has arrived at, `q k` it has left, the arrivals being at most one ahead, and nobody
  having left a meeting that somebody has not arrived at; the units landed on a cell are a set of distinct pairs
  (meeting, tile), each of a meeting that tile has arrived at. So `n (r + 1)` units landed on a cell whose tile
  has left `r` meetings show that every tile has arrived at meeting `r`.

  At meeting `r` the tile `w r` puts down `pay r j` for every tile `j`, and tile `j` takes `pay r j` away.
-/
module

public import Idealize.ShloMosaic.Lib.Rounds
public import Idealize.ShloMosaic.Lib.SparseCore.Ops
public import Idealize.ShloMosaic.Lib.Tactic

@[expose] public section

noncomputable section

namespace Cert.Proof.Turns

open Idealize.ShloMosaic Idealize.ShloMosaic.Rounds
open Idealize.ShloMosaic.SparseCore (V)
open Idealize.SL Idealize.SL.BI
open scoped Idealize.SL.BI
open Idealize.SL.BI.BIBase Idealize.SL.BI.Laws Idealize.SL.Sem Idealize.SL.ProofMode
open Idealize.SL.RA

/-! ## The count -/

/-- What holds of the arrivals `A`, the departures `q` and the landed units `Dl`. -/
structure Good {n : ℕ} (T : ℕ) (A q : Fin n → ℕ) (Dl : Fin n → Finset (ℕ × ℕ)) : Prop where
  le : ∀ k, q k ≤ A k
  ahead : ∀ k, A k ≤ q k + 1
  all : ∀ j k, q j ≤ A k
  mem : ∀ j, ∀ x ∈ Dl j, x.1 < T ∧ ∃ k : Fin n, x.2 = k.val ∧ x.1 < A k
  card : ∀ j, n * q j ≤ (Dl j).card

section Count

variable {n T : ℕ} {A q : Fin n → ℕ} {Dl : Fin n → Finset (ℕ × ℕ)}

/-- No more units have landed on a cell than there were arrivals. -/
theorem Good.card_le (h : Good T A q Dl) (j : Fin n) : (Dl j).card ≤ ∑ k, A k := by
  have hs : Dl j ⊆ Finset.univ.biUnion fun k : Fin n => (Finset.range (A k)).image fun r => (r, k.val) := by
    rintro ⟨r, m⟩ hx
    obtain ⟨-, k, hk, hr⟩ := h.mem j _ hx
    simp only [Finset.mem_biUnion, Finset.mem_univ, true_and, Finset.mem_image, Finset.mem_range]
    exact ⟨k, r, hr, Prod.ext rfl hk.symm⟩
  refine (Finset.card_le_card hs).trans (Finset.card_biUnion_le.trans (Finset.sum_le_sum fun k _ => ?_))
  exact Finset.card_image_le.trans (Finset.card_range _).le

/-- The landed units are of the first `T` meetings and of the `n` tiles. -/
theorem Good.subset (h : Good T A q Dl) (j : Fin n) :
    Dl j ⊆ Finset.range T ×ˢ (Finset.univ : Finset (Fin n)).image Fin.val := by
  rintro ⟨r, m⟩ hx
  obtain ⟨hT, k, hk, -⟩ := h.mem j _ hx
  rw [Finset.mem_product]
  exact ⟨Finset.mem_range.mpr hT, Finset.mem_image.mpr ⟨k, Finset.mem_univ _, hk.symm⟩⟩

theorem card_all : (Finset.range T ×ˢ (Finset.univ : Finset (Fin n)).image Fin.val).card = n * T := by
  rw [Finset.card_product, Finset.card_range, Finset.card_image_of_injective _ Fin.val_injective, Finset.card_univ,
    Fintype.card_fin, Nat.mul_comm]

/-- With `n` units on the cell of a tile that has left `r` meetings, every tile has arrived at meeting `r`. -/
theorem Good.arrived (h : Good T A q Dl) {k : Fin n} (hv : n ≤ (Dl k).card - n * q k) (hn : 0 < n) :
    ∀ j, q k + 1 ≤ A j := by
  by_contra hc
  push Not at hc
  obtain ⟨j₀, hj₀⟩ := hc
  have hle : ∀ j, A j ≤ q k + 1 := fun j => by
    have h1 := h.ahead j; have h2 := h.all j j₀; omega
  have hlt : ∑ j, A j < ∑ _j : Fin n, (q k + 1) :=
    Finset.sum_lt_sum (fun j _ => hle j) ⟨j₀, Finset.mem_univ _, hj₀⟩
  rw [Finset.sum_const, Finset.card_univ, Fintype.card_fin, smul_eq_mul] at hlt
  have hc := h.card_le k
  have h4 := h.card k
  rw [Nat.mul_add, Nat.mul_one] at hlt
  omega

theorem Good.arrive (h : Good T A q Dl) {k : Fin n} (hk : A k = q k) :
    Good T (Function.update A k (A k + 1)) q Dl where
  le j := by
    by_cases e : j = k
    · subst e; rw [Function.update_self]; have := h.le j; omega
    · rw [Function.update_of_ne e]; exact h.le j
  ahead j := by
    by_cases e : j = k
    · subst e; rw [Function.update_self]; omega
    · rw [Function.update_of_ne e]; exact h.ahead j
  all i j := by
    by_cases e : j = k
    · subst e; rw [Function.update_self]; have := h.all i j; omega
    · rw [Function.update_of_ne e]; exact h.all i j
  mem j x hx := by
    obtain ⟨h1, i, h2, h3⟩ := h.mem j x hx
    refine ⟨h1, i, h2, ?_⟩
    by_cases e : i = k
    · subst e; rw [Function.update_self]; omega
    · rw [Function.update_of_ne e]; exact h3
  card := h.card

theorem Good.land (h : Good T A q Dl) {j k : Fin n} {r : ℕ} (hr : r < T) (hA : r < A k) :
    Good T A q (Function.update Dl j (insert (r, k.val) (Dl j))) where
  le := h.le
  ahead := h.ahead
  all := h.all
  mem i x hx := by
    by_cases e : i = j
    · subst e; rw [Function.update_self] at hx
      rcases Finset.mem_insert.mp hx with rfl | hx
      · exact ⟨hr, k, rfl, hA⟩
      · exact h.mem i x hx
    · rw [Function.update_of_ne e] at hx; exact h.mem i x hx
  card i := by
    by_cases e : i = j
    · subst e; rw [Function.update_self]
      exact (h.card i).trans (Finset.card_le_card (Finset.subset_insert _ _))
    · rw [Function.update_of_ne e]; exact h.card i

theorem Good.leave (h : Good T A q Dl) {k : Fin n} (hv : n ≤ (Dl k).card - n * q k) (hall : ∀ j, q k + 1 ≤ A j) :
    Good T A (Function.update q k (q k + 1)) Dl where
  le j := by
    by_cases e : j = k
    · subst e; rw [Function.update_self]; exact hall j
    · rw [Function.update_of_ne e]; exact h.le j
  ahead j := by
    by_cases e : j = k
    · subst e; rw [Function.update_self]; have := h.ahead j; omega
    · rw [Function.update_of_ne e]; exact h.ahead j
  all i j := by
    by_cases e : i = k
    · subst e; rw [Function.update_self]; exact hall j
    · rw [Function.update_of_ne e]; exact h.all i j
  mem := h.mem
  card j := by
    by_cases e : j = k
    · subst e; rw [Function.update_self, Nat.mul_add, Nat.mul_one]; have := h.card j; omega
    · rw [Function.update_of_ne e]; exact h.card j

theorem good_init : Good (n := n) T (fun _ => 0) (fun _ => 0) (fun _ => ∅) where
  le _ := le_rfl
  ahead _ := Nat.zero_le _
  all _ _ := le_rfl
  mem _ x hx := absurd hx (Finset.notMem_empty x)
  card _ := by rw [Nat.mul_zero]; exact Nat.zero_le _

end Count

/-! ## The invariant -/

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (bd : Option 𝒱.V)
variable {α : Type} {Φ : α → sProp (MT nD τ sig Ix (Elt F) Name U Lvl)}

local notation "𝕄" => MT nD τ sig Ix (Elt F) Name U Lvl

variable (E : Emb (URounds (GSem nD τ sig) ℕ) (MT nD τ sig Ix (Elt F) Name U Lvl))
variable (dv : Dev nD) (sc : Fin τ.nSC) (bar : Sem sig) {n : ℕ} (hn : n ≤ τ.nSub) (T : ℕ)
variable (w : ℕ → Fin n) (pay : ℕ → Fin n → sProp (MT nD τ sig Ix (Elt F) Name U Lvl))

/-- Tile `j`'s barrier cell. -/
abbrev cell (j : Fin n) : GSem nD τ sig := (V dv sc (j.castLE hn), .reg bar)

/-- One tile's part of the invariant: where it stands, the tokens of the units landed on its cell, and the cell's
    counter — or, once the tile has taken the counter back, its final position. -/
def perCell (a q : ℕ) (Dj : Finset (ℕ × ℕ)) (j : Fin n) : sProp 𝕄 :=
  iprop(roundAuth E (cell dv sc bar hn j) a ∅ q
    ∗ (bigSep Dj fun x => dutyTok E (cell dv sc bar hn j) x.1 x.2)
    ∗ (semVal (cell dv sc bar hn j) (Dj.card - n * q) ∨ atPos E (cell dv sc bar hn j) T ∅ T))

theorem perCell_eq (a q : ℕ) (Dj : Finset (ℕ × ℕ)) (j : Fin n) : perCell E dv sc bar hn T a q Dj j =
    iprop(roundAuth E (cell dv sc bar hn j) a ∅ q
    ∗ (bigSep Dj fun x => dutyTok E (cell dv sc bar hn j) x.1 x.2)
    ∗ (semVal (cell dv sc bar hn j) (Dj.card - n * q) ∨ atPos E (cell dv sc bar hn j) T ∅ T)) := rfl

/-- What lies at meeting `x.1` for tile `x.2`: there from the writer's arrival to the taker's departure. -/
def slot (A q : Fin n → ℕ) (x : ℕ × Fin n) : sProp 𝕄 :=
  if x.1 < A (w x.1) ∧ q x.2 ≤ x.1 then pay x.1 x.2 else iprop(emp)

/-- All meetings. -/
abbrev slots : Finset (ℕ × Fin n) := Finset.range T ×ˢ Finset.univ

/-- The invariant's body. -/
def body : sProp 𝕄 :=
  iprop(∃ A : Fin n → ℕ, ∃ q : Fin n → ℕ, ∃ Dl : Fin n → Finset (ℕ × ℕ), ⌜Good T A q Dl⌝
    ∗ (bigSep Finset.univ fun j => perCell E dv sc bar hn T (A j) (q j) (Dl j) j)
    ∗ bigSep (slots T) (slot w pay A q))

instance perCell_storable [E.LandsIn (upEmb : UEmb _ 𝕄)] (a q : ℕ) (Dj : Finset (ℕ × ℕ)) (j : Fin n) :
    BI.Storable (upEmb : UEmb _ 𝕄) (perCell E dv sc bar hn T a q Dj j) := by
  unfold perCell; infer_instance

instance slot_storable [∀ r j, BI.Storable (upEmb : UEmb _ 𝕄) (pay r j)] (A q : Fin n → ℕ) (x : ℕ × Fin n) :
    BI.Storable (upEmb : UEmb _ 𝕄) (slot w pay A q x) := by
  unfold slot; split <;> infer_instance

instance body_storable [E.LandsIn (upEmb : UEmb _ 𝕄)] [∀ r j, BI.Storable (upEmb : UEmb _ 𝕄) (pay r j)] :
    BI.Storable (upEmb : UEmb _ 𝕄) (body E dv sc bar hn T w pay) := by
  unfold body; infer_instance

theorem take' {I : Type} [DecidableEq I] {s : Finset I} {i : I} (hi : i ∈ s) (Ψ : I → sProp 𝕄) :
    bigSep s Ψ = iprop(Ψ i ∗ bigSep (s.erase i) Ψ) := bigSep_erase hi

theorem insert' {I : Type} [DecidableEq I] {s : Finset I} {i : I} (hi : i ∉ s) (Ψ : I → sProp 𝕄) :
    bigSep (insert i s) Ψ = iprop(Ψ i ∗ bigSep s Ψ) := bigSep_insert hi

theorem union' {I : Type} [DecidableEq I] {s t : Finset I} (h : Disjoint s t) (Ψ : I → sProp 𝕄) :
    bigSep (s ∪ t) Ψ = iprop(bigSep s Ψ ∗ bigSep t Ψ) := bigSep_union h

theorem empty' {I : Type} (Ψ : I → sProp 𝕄) : bigSep (∅ : Finset I) Ψ = iprop(emp) := bigSep_empty

theorem perCell_init (j : Fin n) : iprop(roundAuth E (cell dv sc bar hn j) 0 ∅ 0 ∗ semVal (cell dv sc bar hn j) 0)
    ⊢ perCell E dv sc bar hn T 0 0 ∅ j := by
  unfold perCell
  rw [empty', Finset.card_empty, Nat.zero_sub]
  iintro ⟨Ha, Hv⟩
  isplitl [Ha]; · iexact Ha
  isplitr; · iempintro
  ileft; iexact Hv

theorem slots_init : iprop(emp) ⊢ (bigSep (slots T) (slot w pay (fun _ => 0) (fun _ => 0)) : sProp 𝕄) := by
  refine Entails.of_eq ?_
  rw [bigSep_congr (Ψ := fun _ => iprop(emp)) fun x _ => by
    unfold slot; rw [if_neg fun h => absurd h.1 (Nat.not_lt_zero _)]]
  exact (bigSep_emp_const _).symm

/-- The body at the start: nobody arrived, every counter at zero. -/
theorem body_init : iprop(bigSep (Finset.univ : Finset (Fin n)) fun j =>
      iprop(roundAuth E (cell dv sc bar hn j) 0 ∅ 0 ∗ semVal (cell dv sc bar hn j) 0))
    ⊢ body E dv sc bar hn T w pay := by
  unfold body
  iintro H
  iexists (fun _ => 0), (fun _ => 0), (fun _ => ∅)
  isplitr; · ipureintro; exact good_init
  isplitl [H]
  · iapply (SparseCore.ent (bigSep_mono (s := (Finset.univ : Finset (Fin n)))
      (Φ := fun j => iprop(roundAuth E (cell dv sc bar hn j) 0 ∅ 0 ∗ semVal (cell dv sc bar hn j) 0))
      (Ψ := fun j => perCell E dv sc bar hn T 0 0 ∅ j) fun j _ => perCell_init E dv sc bar hn T j))
    iexact H
  · iapply (slots_init T w pay); iempintro

/-- One tile's part out of the family, and back changed. -/
theorem cells_take (A q : Fin n → ℕ) (Dl : Fin n → Finset (ℕ × ℕ)) (k : Fin n) :
    (bigSep Finset.univ fun j => perCell E dv sc bar hn T (A j) (q j) (Dl j) j)
      = iprop(perCell E dv sc bar hn T (A k) (q k) (Dl k) k
          ∗ bigSep (Finset.univ.erase k) fun j => perCell E dv sc bar hn T (A j) (q j) (Dl j) j) :=
  bigSep_univ_split k

theorem cells_put {A q A' q' : Fin n → ℕ} {Dl Dl' : Fin n → Finset (ℕ × ℕ)} (k : Fin n)
    (hA : ∀ j, j ≠ k → A' j = A j) (hq : ∀ j, j ≠ k → q' j = q j) (hD : ∀ j, j ≠ k → Dl' j = Dl j) :
    iprop(perCell E dv sc bar hn T (A' k) (q' k) (Dl' k) k
          ∗ bigSep (Finset.univ.erase k) fun j => perCell E dv sc bar hn T (A j) (q j) (Dl j) j)
      = bigSep Finset.univ fun j => perCell E dv sc bar hn T (A' j) (q' j) (Dl' j) j := by
  rw [cells_take E dv sc bar hn T A' q' Dl' k]
  congr 1
  exact bigSep_congr fun j hj => by
    have := (Finset.mem_erase.mp hj).1
    rw [hA j this, hq j this, hD j this]

/-! ## The writer puts down, the taker takes -/

/-- What a tile puts down when it arrives at meeting `r`. -/
def deposit (r : ℕ) (k : Fin n) : sProp 𝕄 :=
  if w r = k then bigSep Finset.univ (pay r) else iprop(emp)

theorem slots_arrive {A q : Fin n → ℕ} {k : Fin n} (hk : A k = q k) (hall : ∀ j, q j ≤ A k) (hr : A k < T) :
    iprop(bigSep (slots T) (slot w pay A q) ∗ deposit w pay (A k) k)
      ⊢ bigSep (slots T) (slot w pay (Function.update A k (A k + 1)) q) := by
  have hset : (slots T : Finset (ℕ × Fin n)) = ({A k} ×ˢ Finset.univ) ∪ ((Finset.range T).erase (A k) ×ˢ Finset.univ) := by
    rw [← Finset.union_product, ← Finset.insert_eq, Finset.insert_erase (Finset.mem_range.mpr hr)]
  have hdis : Disjoint (({A k} : Finset ℕ) ×ˢ (Finset.univ : Finset (Fin n))) ((Finset.range T).erase (A k) ×ˢ Finset.univ) :=
    Finset.disjoint_product.mpr (.inl (Finset.disjoint_singleton_left.mpr (Finset.notMem_erase _ _)))
  rw [hset, union' hdis, union' hdis]
  have hrest : bigSep ((Finset.range T).erase (A k) ×ˢ (Finset.univ : Finset (Fin n))) (slot w pay A q)
      = bigSep ((Finset.range T).erase (A k) ×ˢ Finset.univ) (slot w pay (Function.update A k (A k + 1)) q) :=
    bigSep_congr fun x hx => by
      have hne : x.1 ≠ A k := (Finset.mem_erase.mp (Finset.mem_product.mp hx).1).1
      unfold slot
      by_cases e : w x.1 = k
      · rw [e, Function.update_self]
        have : x.1 < A k + 1 ↔ x.1 < A k := by omega
        simp only [this]
      · rw [Function.update_of_ne e]
  have hsing (Ψ : ℕ × Fin n → sProp 𝕄) : bigSep (({A k} : Finset ℕ) ×ˢ (Finset.univ : Finset (Fin n))) Ψ
      = bigSep Finset.univ fun j => Ψ (A k, j) := by
    rw [Finset.singleton_product, bigSep_map]; rfl
  rw [hrest, hsing, hsing]
  have hnew : iprop((bigSep Finset.univ fun j => slot w pay A q (A k, j)) ∗ deposit w pay (A k) k)
      ⊢ bigSep Finset.univ fun j => slot w pay (Function.update A k (A k + 1)) q (A k, j) := by
    unfold deposit
    split
    · rename_i e
      iintro ⟨-, H⟩
      rw [bigSep_congr (Φ := fun j => slot w pay (Function.update A k (A k + 1)) q (A k, j)) (Ψ := pay (A k)) fun j _ => by
        unfold slot; rw [if_pos ⟨by show A k < Function.update A k (A k + 1) (w (A k)); rw [e, Function.update_self]; omega, hall j⟩]]
      iexact H
    · rename_i e
      iintro ⟨H, -⟩
      rw [bigSep_congr (Φ := fun j => slot w pay (Function.update A k (A k + 1)) q (A k, j))
        (Ψ := fun j => slot w pay A q (A k, j)) fun j _ => by unfold slot; rw [Function.update_of_ne e]]
      iexact H
  iintro ⟨⟨H1, H2⟩, Hd⟩
  isplitl [H1 Hd]
  · iapply hnew; isplitl [H1] <;> iassumption
  · iexact H2

theorem slots_leave {A q : Fin n → ℕ} {k : Fin n} (hall : ∀ j, q k + 1 ≤ A j) (hr : q k < T) :
    bigSep (slots T) (slot w pay A q)
      ⊢ iprop(bigSep (slots T) (slot w pay A (Function.update q k (q k + 1))) ∗ pay (q k) k) := by
  have hmem : (q k, k) ∈ (slots T : Finset (ℕ × Fin n)) := Finset.mem_product.mpr ⟨Finset.mem_range.mpr hr, Finset.mem_univ _⟩
  rw [take' hmem, take' hmem (slot w pay A (Function.update q k (q k + 1)))]
  have h1 : slot w pay A q (q k, k) = pay (q k) k := by
    unfold slot; exact if_pos ⟨hall _, le_rfl⟩
  have h2 : slot w pay A (Function.update q k (q k + 1)) (q k, k) = iprop(emp) := by
    unfold slot
    refine if_neg fun h => ?_
    have h3 : Function.update q k (q k + 1) k ≤ q k := h.2
    rw [Function.update_self] at h3; omega
  rw [h1, h2, bigSep_congr (s := (slots T).erase (q k, k)) (Φ := slot w pay A q)
    (Ψ := slot w pay A (Function.update q k (q k + 1))) fun x hx => by
      have hne := (Finset.mem_erase.mp hx).1
      unfold slot
      by_cases e : x.2 = k
      · rw [e, Function.update_self]
        have hx1 : x.1 ≠ q k := fun h => hne (Prod.ext h e)
        have : q k ≤ x.1 ↔ q k + 1 ≤ x.1 := by omega
        simp only [this]
      · rw [Function.update_of_ne e]]
  iintro ⟨Hp, H⟩
  isplitl [H]
  · isplitr; · iempintro
    iexact H
  · iexact Hp

/-! ## The steps -/

variable {κ : Name}

/-- Arriving at meeting `r`: the tile's arrival counted, its payloads put down. -/
theorem arrive (k : Fin n) {r : ℕ} (hr : r < T) :
    iprop(inv κ (body E dv sc bar hn T w pay) ∗ atPos E (cell dv sc bar hn k) r ∅ r ∗ deposit w pay r k)
      ⊢ |={Set.univ}=> iprop(atPos E (cell dv sc bar hn k) (r + 1) ∅ r ∗ reached E (cell dv sc bar hn k) (r + 1)) := by
  unfold body
  iintro ⟨Hinv, Hat, Hdep⟩
  imod (inv_acc (Set.mem_univ κ)) $$ Hinv with ⟨Hb, Hclose⟩
  icases Hb with ⟨%A, %q, %Dl, %hG, Hcells, Hslots⟩
  ihave Hcells := (Entails.of_eq (cells_take E dv sc bar hn T A q Dl k)) $$ Hcells
  icases Hcells with ⟨Hk, Hrest⟩
  ihave Hk := (Entails.of_eq (perCell_eq E dv sc bar hn T (A k) (q k) (Dl k) k)) $$ Hk
  icases Hk with ⟨Hau, Htk, Hct⟩
  ihave H := (persistent_entails_right (roundAuth_atPos_agree E)) $$ [Hau Hat]
  · isplitl [Hau] <;> iassumption
  icases H with ⟨%h, Hau, Hat⟩
  obtain ⟨hA, -, hq⟩ := h
  have hAq : A k = q k := by omega
  ihave Hau := (Entails.of_eq (show roundAuth E (cell dv sc bar hn k) (A k) ∅ (q k) = (roundAuth E (cell dv sc bar hn k) r ∅ r : sProp 𝕄) by
    rw [← hA, ← hq])) $$ Hau
  imod (roundAuth_atPos_move E (R := r) (C := ∅) (m := r) (r + 1) ∅ r (Nat.le_succ r)) $$ [Hau Hat] with ⟨Hau, Hat⟩
  · isplitl [Hau] <;> iassumption
  imod (roundAuth_witness E) $$ Hau with ⟨Hau, Hre⟩
  ihave Hslots := (slots_arrive T w pay (A := A) (q := q) (k := k) hAq (fun j => hG.all j k) (by omega)) $$ [Hslots Hdep]
  · rw [← hA]; isplitl [Hslots] <;> iassumption
  ihave Hc := Hclose $$ [Hau Htk Hct Hrest Hslots]
  · iexists (Function.update A k (A k + 1)), q, Dl
    isplitr; · ipureintro; exact hG.arrive hAq
    isplitr [Hslots]
    · iapply (Entails.of_eq (cells_put E dv sc bar hn T (A := A) (q := q) (Dl := Dl) (A' := Function.update A k (A k + 1)) k
        (fun j hj => Function.update_of_ne hj _ _) (fun _ _ => rfl) (fun _ _ => rfl)))
      isplitr [Hrest]
      · iapply (Entails.of_eq (perCell_eq E dv sc bar hn T _ (q k) (Dl k) k).symm)
        rw [Function.update_self, ← hA, ← hq]
        isplitl [Hau]; · iexact Hau
        isplitl [Htk] <;> iassumption
      · iexact Hrest
    · iexact Hslots
  imod Hc
  imodintro
  isplitl [Hat] <;> iassumption

/-- One unit of meeting `r` from tile `k`, which has arrived there, lands on tile `j`'s cell. -/
theorem land (j k : Fin n) {r : ℕ} (hr : r < T) :
    iprop(inv κ (body E dv sc bar hn T w pay) ∗ dutyTok E (cell dv sc bar hn j) r k.val ∗ reached E (cell dv sc bar hn k) (r + 1))
      ⊢ atomically frame Set.univ (raiseSpec (cell dv sc bar hn j) 1) (fun _ => (iprop(emp) : sProp 𝕄)) := by
  unfold body
  iintro ⟨Hinv, Htok, Hre⟩
  imod (inv_acc (Set.mem_univ κ)) $$ Hinv with ⟨Hb, Hclose⟩
  icases Hb with ⟨%A, %q, %Dl, %hG, Hcells, Hslots⟩
  -- tile `k` has arrived at meeting `r`
  ihave Hcells := (Entails.of_eq (cells_take E dv sc bar hn T A q Dl k)) $$ Hcells
  icases Hcells with ⟨Hk, Hrest⟩
  ihave Hk := (Entails.of_eq (perCell_eq E dv sc bar hn T (A k) (q k) (Dl k) k)) $$ Hk
  icases Hk with ⟨Hau, Htk, Hct⟩
  ihave H := (persistent_entails_right (roundAuth_reached_le E)) $$ [Hau Hre]
  · isplitl [Hau] <;> iassumption
  icases H with ⟨%hA, Hau, -⟩
  ihave Hcells := (Entails.of_eq (cells_put E dv sc bar hn T (A := A) (q := q) (Dl := Dl) (A' := A) (q' := q) (Dl' := Dl) k
        (fun _ _ => rfl) (fun _ _ => rfl) (fun _ _ => rfl))) $$ [Hau Htk Hct Hrest]
  · isplitr [Hrest]
    · iapply (Entails.of_eq (perCell_eq E dv sc bar hn T (A k) (q k) (Dl k) k).symm)
      isplitl [Hau]; · iexact Hau
      isplitl [Htk] <;> iassumption
    · iexact Hrest
  -- its unit is not yet among those landed on the cell
  ihave Hcells := (Entails.of_eq (cells_take E dv sc bar hn T A q Dl j)) $$ Hcells
  icases Hcells with ⟨Hj, Hrest⟩
  ihave Hj := (Entails.of_eq (perCell_eq E dv sc bar hn T (A j) (q j) (Dl j) j)) $$ Hj
  icases Hj with ⟨Hau, Htk, Hct⟩
  by_cases hin : (r, k.val) ∈ Dl j
  · ihave Htk := (Entails.of_eq (take' hin fun x => (dutyTok E (cell dv sc bar hn j) x.1 x.2 : sProp 𝕄))) $$ Htk
    icases Htk with ⟨Ht1, -⟩
    iexfalso
    iapply (dutyTok_dutyTok_false E (g := cell dv sc bar hn j) (r := r) (d := k.val))
    isplitl [Ht1] <;> iassumption
  have hcard : (insert (r, k.val) (Dl j)).card - n * q j = (Dl j).card - n * q j + 1 := by
    rw [Finset.card_insert_of_notMem hin]; have := hG.card j; omega
  icases Hct with (Hv | Hfin)
  rotate_left
  · ihave H := (persistent_entails_right (roundAuth_atPos_agree E)) $$ [Hau Hfin]
    · isplitl [Hau] <;> iassumption
    icases H with ⟨%h, -, -⟩
    exfalso
    have h1 := hG.card j
    have h2 := (Finset.card_le_card (Finset.insert_subset (show (r, k.val) ∈ Finset.range T ×ˢ (Finset.univ : Finset (Fin n)).image Fin.val from
      Finset.mem_product.mpr ⟨Finset.mem_range.mpr hr, Finset.mem_image.mpr ⟨k, Finset.mem_univ _, rfl⟩⟩) (hG.subset j))).trans card_all.le
    rw [Finset.card_insert_of_notMem hin] at h2
    rw [← h.2.2] at h1
    omega
  imodintro
  rw [raiseSpec_apply]
  iexists ((Dl j).card - n * q j)
  isplitl [Hv]; · iexact Hv
  iintro Hv
  ihave Hc := Hclose $$ [Hau Htk Hv Htok Hrest Hslots]
  · iexists A, q, (Function.update Dl j (insert (r, k.val) (Dl j)))
    isplitr; · ipureintro; exact hG.land hr hA
    isplitr [Hslots]
    · iapply (Entails.of_eq (cells_put E dv sc bar hn T (A := A) (q := q) (Dl := Dl) (A' := A) (q' := q)
        (Dl' := Function.update Dl j (insert (r, k.val) (Dl j))) j (fun _ _ => rfl) (fun _ _ => rfl)
        (fun i hi => Function.update_of_ne hi _ _)))
      isplitr [Hrest]
      · iapply (Entails.of_eq (perCell_eq E dv sc bar hn T (A j) (q j) _ j).symm)
        rw [Function.update_self, hcard]
        isplitl [Hau]; · iexact Hau
        isplitl [Htk Htok]
        · iapply (Entails.of_eq (insert' hin fun x : ℕ × ℕ => (dutyTok E (cell dv sc bar hn j) x.1 x.2 : sProp 𝕄)).symm)
          isplitl [Htok] <;> iassumption
        · ileft; iexact Hv
      · iexact Hrest
    · iexact Hslots
  imod Hc
  imodintro
  iempintro

/-- Leaving meeting `r`: `n` units off the tile's counter, every tile's arrival known, what lay there taken. -/
theorem leave (k : Fin n) {r : ℕ} (hr : r < T) {K' : PUnit → sProp 𝕄} :
    iprop(inv κ (body E dv sc bar hn T w pay) ∗ atPos E (cell dv sc bar hn k) (r + 1) ∅ r
        ∗ (iprop(atPos E (cell dv sc bar hn k) (r + 1) ∅ (r + 1) ∗ pay r k) -∗ K' ⟨⟩))
      ⊢ atomically frame Set.univ (lowerSpec (cell dv sc bar hn k) n) K' := by
  unfold body
  iintro ⟨Hinv, Hat, Hk'⟩
  imod (inv_acc (Set.mem_univ κ)) $$ Hinv with ⟨Hb, Hclose⟩
  icases Hb with ⟨%A, %q, %Dl, %hG, Hcells, Hslots⟩
  ihave Hcells := (Entails.of_eq (cells_take E dv sc bar hn T A q Dl k)) $$ Hcells
  icases Hcells with ⟨Hk, Hrest⟩
  ihave Hk := (Entails.of_eq (perCell_eq E dv sc bar hn T (A k) (q k) (Dl k) k)) $$ Hk
  icases Hk with ⟨Hau, Htk, Hct⟩
  ihave H := (persistent_entails_right (roundAuth_atPos_agree E)) $$ [Hau Hat]
  · isplitl [Hau] <;> iassumption
  icases H with ⟨%h, Hau, Hat⟩
  obtain ⟨hA, -, hq⟩ := h
  icases Hct with (Hv | Hfin)
  rotate_left
  · iexfalso
    iapply (atPos_atPos_false E (g := cell dv sc bar hn k))
    isplitl [Hat] <;> iassumption
  imodintro
  iapply lowerSpec_intro $$ Hv
  iintro %hle Hv
  have hall := hG.arrived hle (Nat.lt_of_le_of_lt (Nat.zero_le _) k.isLt)
  ihave Hau := (Entails.of_eq (show roundAuth E (cell dv sc bar hn k) (A k) ∅ (q k) = (roundAuth E (cell dv sc bar hn k) (r + 1) ∅ r : sProp 𝕄) by
    rw [← hA, ← hq])) $$ Hau
  imod (roundAuth_atPos_move E (R := r + 1) (C := ∅) (m := r) (r + 1) ∅ (r + 1) le_rfl) $$ [Hau Hat] with ⟨Hau, Hat⟩
  · isplitl [Hau] <;> iassumption
  ihave Hs := (slots_leave T w pay (A := A) (q := q) (k := k) hall (by omega)) $$ Hslots
  icases Hs with ⟨Hslots, Hpay⟩
  ihave Hc := Hclose $$ [Hau Htk Hv Hrest Hslots]
  · iexists A, (Function.update q k (q k + 1)), Dl
    isplitr; · ipureintro; exact hG.leave hle hall
    isplitr [Hslots]
    · iapply (Entails.of_eq (cells_put E dv sc bar hn T (A := A) (q := q) (Dl := Dl) (A' := A) (q' := Function.update q k (q k + 1)) (Dl' := Dl) k
        (fun _ _ => rfl) (fun j hj => Function.update_of_ne hj _ _) (fun _ _ => rfl)))
      isplitr [Hrest]
      · iapply (Entails.of_eq (perCell_eq E dv sc bar hn T (A k) _ (Dl k) k).symm)
        rw [Function.update_self, ← hA, ← hq, show (Dl k).card - n * (r + 1) = (Dl k).card - n * r - n by
          rw [Nat.mul_add, Nat.mul_one]; omega]
        isplitl [Hau]; · iexact Hau
        isplitl [Htk]; · iexact Htk
        ileft; iexact Hv
      · iexact Hrest
    · iexact Hslots
  imod Hc
  imodintro
  iapply Hk'
  isplitl [Hat]; · iexact Hat
  rw [hq]; iexact Hpay

/-- All meetings over, the tile takes its counter back, at zero. -/
theorem close (k : Fin n) :
    iprop(inv κ (body E dv sc bar hn T w pay) ∗ atPos E (cell dv sc bar hn k) T ∅ T)
      ⊢ |={Set.univ}=> (semVal (cell dv sc bar hn k) 0 : sProp 𝕄) := by
  unfold body
  iintro ⟨Hinv, Hat⟩
  imod (inv_acc (Set.mem_univ κ)) $$ Hinv with ⟨Hb, Hclose⟩
  icases Hb with ⟨%A, %q, %Dl, %hG, Hcells, Hslots⟩
  ihave Hcells := (Entails.of_eq (cells_take E dv sc bar hn T A q Dl k)) $$ Hcells
  icases Hcells with ⟨Hk, Hrest⟩
  ihave Hk := (Entails.of_eq (perCell_eq E dv sc bar hn T (A k) (q k) (Dl k) k)) $$ Hk
  icases Hk with ⟨Hau, Htk, Hct⟩
  ihave H := (persistent_entails_right (roundAuth_atPos_agree E)) $$ [Hau Hat]
  · isplitl [Hau] <;> iassumption
  icases H with ⟨%h, Hau, Hat⟩
  icases Hct with (Hv | Hfin)
  rotate_left
  · iexfalso
    iapply (atPos_atPos_false E (g := cell dv sc bar hn k))
    isplitl [Hat] <;> iassumption
  have hz : (Dl k).card - n * q k = 0 := by
    have h2 := (Finset.card_le_card (hG.subset k)).trans card_all.le
    rw [← h.2.2]; omega
  ihave Hc := Hclose $$ [Hau Htk Hat Hrest Hslots]
  · iexists A, q, Dl
    isplitr; · ipureintro; exact hG
    isplitr [Hslots]
    · iapply (Entails.of_eq (cells_put E dv sc bar hn T (A := A) (q := q) (Dl := Dl) (A' := A) (q' := q) (Dl' := Dl) k
        (fun _ _ => rfl) (fun _ _ => rfl) (fun _ _ => rfl)))
      isplitr [Hrest]
      · iapply (Entails.of_eq (perCell_eq E dv sc bar hn T (A k) (q k) (Dl k) k).symm)
        isplitl [Hau]; · iexact Hau
        isplitl [Htk]; · iexact Htk
        iright; iexact Hat
      · iexact Hrest
    · iexact Hslots
  imod Hc
  imodintro
  rw [← hz]; iexact Hv

/-! ## One meeting -/

/-- The whole meeting `r`, for tile `k`: the units owed paid off, what the tile brought put down, what lay for it taken. -/
theorem wp_meet (k : Fin n) {i : Fin τ.nSub} (hi : k.castLE hn = i) {r : ℕ} (hr : r < T)
    (ι : Ix) (O : CellTallies nD τ sig Ix) (W : Waits sig Ix) {k' : PUnit → Prog (TpuEff nD τ sig (Elt F) Λ (.scVector sc i)) α} :
    iprop(inv κ (body E dv sc bar hn T w pay)
        ∗ owes (V dv sc i) (O + ∑ j : Fin n, tallyAt (cell dv sc bar hn j) ι 1) W
        ∗ (bigSep Finset.univ fun j : Fin n => dutyTok E (cell dv sc bar hn j) r k.val)
        ∗ deposit w pay r k
        ∗ cred (tallyAt (cell dv sc bar hn k) ι n) ∗ atPos E (cell dv sc bar hn k) r ∅ r
        ∗ MayWait (V dv sc i) (.reg bar) ι O)
      ⊢ iprop((iprop(owes (V dv sc i) O (insert (SemLoc.reg bar, ι) W)
            ∗ atPos E (cell dv sc bar hn k) (r + 1) ∅ (r + 1) ∗ pay r k)
          -∗ wp frame (wpE defs 𝒱 (V dv sc i) bd) Set.univ (k' ⟨⟩) Φ)
        -∗ wp frame (wpE defs 𝒱 (V dv sc i) bd) Set.univ (SparseCore.subcoreBarrier bar n hn >>= k') Φ) := by
  classical
  subst hi
  rw [SparseCore.subcoreBarrier_bind, show (wp frame (wpE defs 𝒱 (V dv sc (k.castLE hn)) bd) Set.univ (.op .deviceId _) Φ : sProp 𝕄) = _
    from wp_deviceId 𝒱 (V dv sc (k.castLE hn)) bd Set.univ]
  iintro ⟨#Hinv, HO, Htoks, Hdep, Hcred, Hat, Hmw⟩ Hk
  imod (arrive E dv sc bar hn T w pay k hr) $$ [Hat Hdep] with ⟨Hat, #Hre⟩
  · isplitr; · iexact Hinv
    isplitl [Hat] <;> iassumption
  have hsig : ∀ l : List (Fin n), l.Nodup →
      iprop(inv κ (body E dv sc bar hn T w pay) ∗ reached E (cell dv sc bar hn k) (r + 1)
          ∗ owes (V dv sc (k.castLE hn)) (O + ∑ j ∈ l.toFinset, tallyAt (cell dv sc bar hn j) ι 1) W
          ∗ (bigSep l.toFinset fun j : Fin n => dutyTok E (cell dv sc bar hn j) r k.val)
          ∗ (owes (V dv sc (k.castLE hn)) O W -∗ wp frame (wpE defs 𝒱 (V dv sc (k.castLE hn)) bd) Set.univ (.op (TpuEff.semWait bar n) k') Φ))
        ⊢ wp frame (wpE defs 𝒱 (V dv sc (k.castLE hn)) bd) Set.univ
            (l.foldr (fun j r => .op (TpuEff.semSignal (dv, .scVector sc (j.castLE hn)) bar 1) fun _ => r) (.op (TpuEff.semWait bar n) k')) Φ := by
    intro l hl
    induction l with
    | nil =>
      rw [List.toFinset_nil, List.foldr_nil, Finset.sum_empty, add_zero]
      iintro ⟨-, -, HO, -, Hk⟩; iapply Hk; iexact HO
    | cons j l ih =>
      rw [List.toFinset_cons, List.foldr_cons]
      have hj : j ∉ l.toFinset := fun h => (List.nodup_cons.mp hl).1 (List.mem_toFinset.mp h)
      rw [show bigSep (insert j l.toFinset) (fun j : Fin n => (dutyTok E (cell dv sc bar hn j) r k.val : sProp 𝕄))
        = iprop(dutyTok E (cell dv sc bar hn j) r k.val ∗ bigSep l.toFinset fun j : Fin n => dutyTok E (cell dv sc bar hn j) r k.val)
        from bigSep_insert hj, Finset.sum_insert hj]
      iintro ⟨#Hinv, #Hre, HO, ⟨Htok, Htoks⟩, Hk⟩
      iapply (wp_semSignal 𝒱 (V dv sc (k.castLE hn)) bd Set.univ (dst := V dv sc (j.castLE hn)) (sem := bar) (k' := 1) ι
          (O₀ := O + (tallyAt (cell dv sc bar hn j) ι 1 + ∑ j ∈ l.toFinset, tallyAt (cell dv sc bar hn j) ι 1))
          (O + ∑ j ∈ l.toFinset, tallyAt (cell dv sc bar hn j) ι 1)
          (by rw [add_comm (tallyAt _ _ _) _, ← add_assoc]) (W := W)) $$ [HO] [Htok]
      · iexact HO
      · rw [landingUpdate_def]
        iintro -
        iapply (land E dv sc bar hn T w pay j k hr)
        isplitr; · iexact Hinv
        isplitl [Htok] <;> iassumption
      iintro HO
      iapply (ih (List.nodup_cons.mp hl).2)
      isplitr; · iexact Hinv
      isplitr; · iexact Hre
      isplitl [HO]; · iexact HO
      isplitl [Htoks] <;> iassumption
  have := hsig (List.finRange n) (List.nodup_finRange n)
  rw [List.toFinset_finRange] at this
  iapply this
  isplitr; · iexact Hinv
  isplitr; · iexact Hre
  isplitl [HO]; · iexact HO
  isplitl [Htoks]; · iexact Htoks
  iintro HO
  iapply (wp_semWait_token 𝒱 (V dv sc (k.castLE hn)) bd Set.univ (sem := bar) (k' := n) ι (O := O) (W := W)) $$ [Hcred HO Hmw] [Hat Hk]
  · isplitl [Hcred]; · iexact Hcred
    isplitl [HO] <;> iassumption
  iapply (leave E dv sc bar hn T w pay k hr)
  isplitr; · iexact Hinv
  isplitl [Hat]; · iexact Hat
  iintro ⟨Hat, Hpay⟩ HO
  iapply Hk
  isplitl [HO]; · iexact HO
  isplitl [Hat] <;> iassumption

end Cert.Proof.Turns

end
-- ==== Proof.Setup.lean ====
/-
  The launch set-up of the kernel's SparseCore call: the program as the launch theorem sees it, the stages of the
  call (one per meeting of its tiles), the ghost state, the buffers, the values the tiles compute, what the meetings
  hand over, what a tile is handed and brings back.
-/
module

public import proofs.«01_k».proof.Defs
public import proofs.«01_k».proof.Proof.Turns
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The stages: one per meeting of the tiles -/

/-- The one call owns all seventeen. -/
@[reducible] def blocks : Blocks 1 17 where
  first := fun _ => 0
  last := fun _ => 16
  fst := fun k => if k = 0 then 0 else 17
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

attribute [instance] blocks

/-- Meeting `r` as a stage. -/
def stg (r : ℕ) : HIx 17 := some (Fin.ofNat 17 r)
theorem stg_val {r : ℕ} (h : r < 17) : (Fin.ofNat 17 r).val = r := Nat.mod_eq_of_lt h

/-! ## The resource algebra -/

abbrev UH : Type := URounds (GSem nD τ sig) ℕ
abbrev UB : Type := URounds (GSem nD τ sig) ℕ
abbrev UP : Type := URounds (GSem nD τ sig) Unit
abbrev UX : Type := UP × Counters
abbrev UU : Type := UH × (UB × UX)

local notation "𝕄" => MT nD τ sig (HIx 17) (Elt F) ℕ UU ℕ

abbrev EH : Emb UH (MT nD τ sig (HIx 17) (Elt F) ℕ UU ℕ) := embL
/-- The meetings' cells: the left half of the right factor. -/
def EB : Emb UB (MT nD τ sig (HIx 17) (Elt F) ℕ UU ℕ) :=
  ((Emb.inl : Emb UB (UB × UX)).trans (Emb.inr : Emb (UB × UX) UU)).trans
    (uEmb (nD := nD) (sig := sig) (Ix := HIx 17) (Val := Elt F) (Name := ℕ) (U := UU) (Lvl := ℕ)).toEmb
instance EB_landsIn : (EB : Emb UB 𝕄).LandsIn (upEmb : UEmb _ 𝕄) := by unfold EB; infer_instance
/-- The TensorCore calls' staging cells. -/
def EP : Emb UP (MT nD τ sig (HIx 17) (Elt F) ℕ UU ℕ) :=
  ((Emb.inl : Emb UP UX).trans ((Emb.inr : Emb UX (UB × UX)).trans (Emb.inr : Emb (UB × UX) UU))).trans
    (uEmb (nD := nD) (sig := sig) (Ix := HIx 17) (Val := Elt F) (Name := ℕ) (U := UU) (Lvl := ℕ)).toEmb
instance EP_landsIn : (EP : Emb UP 𝕄).LandsIn (upEmb : UEmb _ 𝕄) := by unfold EP; infer_instance

/-! ## Shares: a share halved `n` times -/

/-- Part `k` of share `q` halved `n` times. -/
def part : ℕ → PosShare TreeShare → ℕ → PosShare TreeShare
  | 0, q, _ => q
  | n + 1, q, k => if k < 2 ^ n then part n q.left k else part n q.right (k - 2 ^ n)

theorem pts_halves {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

theorem pts_range [FloatOps F] {ℓ : Loc nD τ sig} (I : Finset (Idx ℓ)) (f : Buf (Elt F) ℓ) (n : ℕ) : ∀ q : PosShare TreeShare,
    (ℓ ↦[I]{q} f : sProp 𝕄) = bigSep (Finset.range (2 ^ n)) fun k => ℓ ↦[I]{part n q k} f := by
  induction n with
  | zero => intro q; rw [pow_zero, Finset.range_one, bigSep_singleton]; rfl
  | succ n ih =>
    intro q
    have hu : Finset.range (2 ^ (n + 1)) = Finset.range (2 ^ n) ∪ (Finset.range (2 ^ n)).image (2 ^ n + ·) := by
      ext x; simp only [Finset.mem_range, Finset.mem_union, Finset.mem_image, pow_succ]
      constructor
      · intro h
        by_cases hx : x < 2 ^ n
        · exact .inl hx
        · exact .inr ⟨x - 2 ^ n, by omega, by omega⟩
      · rintro (h | ⟨y, hy, rfl⟩) <;> omega
    have hd : Disjoint (Finset.range (2 ^ n)) ((Finset.range (2 ^ n)).image (2 ^ n + ·)) := by
      rw [Finset.disjoint_left]; intro x hx hy
      obtain ⟨y, -, rfl⟩ := Finset.mem_image.mp hy
      have := Finset.mem_range.mp hx; omega
    rw [hu, Turns.union' hd, pts_halves, ih q.left, ih q.right]
    congr 1
    · exact bigSep_congr fun k hk => by rw [part, if_pos (Finset.mem_range.mp hk)]
    · rw [SparseCore.bigSep_image_of_injOn (fun a _ b _ e => Nat.add_left_cancel e)]
      exact bigSep_congr fun k _ => by rw [part, if_neg (by omega), Nat.add_sub_cancel_left]

theorem bigSep_range (n : ℕ) (Φ : ℕ → sProp 𝕄) : bigSep (Finset.range n) Φ = bigSep Finset.univ fun i : Fin n => Φ i.val := by
  have h : Finset.range n = (Finset.univ : Finset (Fin n)).image Fin.val := by
    ext x; simp only [Finset.mem_range, Finset.mem_image, Finset.mem_univ, true_and]
    exact ⟨fun h => ⟨⟨x, h⟩, rfl⟩, fun ⟨y, e⟩ => e ▸ y.isLt⟩
  rw [h, SparseCore.bigSep_image_of_injOn (fun a _ b _ e => Fin.ext e)]

theorem pts_parts [FloatOps F] {ℓ : Loc nD τ sig} (I : Finset (Idx ℓ)) (f : Buf (Elt F) ℓ) (n : ℕ) (q : PosShare TreeShare) :
    (ℓ ↦[I]{q} f : sProp 𝕄) = bigSep Finset.univ fun k : Fin (2 ^ n) => ℓ ↦[I]{part n q k.val} f := by
  rw [pts_range I f n q, bigSep_range]

/-! ## The launch memory and the buffers -/

variable (m : (ℓ : Loc nD τ sig) → Buf (Elt F) ℓ) (ρ : Dev nD → PrngReg)

abbrev lblLoc (d : Dev nD) : Loc nD τ sig := (SparseCore.T d).loc main_arg1
abbrev crLoc (d : Dev nD) : Loc nD τ sig := (SparseCore.T d).loc main_v2_0
abbrev dLoc (d : Dev nD) : Loc nD τ sig := (SparseCore.T d).loc main_v2_1

/-- SparseCore `c`'s shared bins, as every tile of it addresses them. -/
abbrev shRef (c : Fin τ.nSC) : DevRef τ sig := ⟨.shared, ⟨0, by decide⟩, c⟩
abbrev shLoc (d : Dev nD) (c : Fin τ.nSC) : Loc nD τ sig := (d, shRef c)

/-- The block of the counts a tile writes: tile `i` of SparseCore `c` block `2 i + c` of 32. -/
theorem hdiv : 32 ∣ S16384.size 0 := ⟨512, rfl⟩
def blockOf (c : Fin 2) (i : Fin 16) : Fin 32 := ⟨2 * i.val + c.val, by omega⟩
abbrev blk (k : Fin 32) : Rect S16384 := Rect.part (s := S16384) (a₀ := 0) hdiv k

theorem blockOf_bij : Function.Bijective fun x : Fin 2 × Fin 16 => blockOf x.1 x.2 := by decide +kernel

/-- The tiles of both SparseCores are the 32 blocks. -/
theorem bigSep_blocks (Φ : Fin 32 → sProp 𝕄) :
    bigSep Finset.univ Φ = bigSep Finset.univ fun c : Fin 2 => bigSep Finset.univ fun i : Fin 16 => Φ (blockOf c i) := by
  rw [bigSep_univ_equiv (Equiv.ofBijective _ blockOf_bij) Φ, bigSep_univ_prod]; rfl

variable [FloatOps F]

/-! ## The values -/

section Values

variable (lbl : S16384.Idx → BitVec 32)

/-- Entry `n` of a vector of 16384. -/
def ix (n : ℕ) : S16384.Idx := fun a => ⟨n % 16384, by obtain rfl : a = 0 := Subsingleton.elim _ _; exact Nat.mod_lt _ (by decide)⟩

/-- The labels of group `n`. -/
def grp (n : ℕ) : IVec S16 32 := fun x => lbl (ix (16 * n + (x 0).val))

/-- The bins after `n` groups of labels. -/
def Hg : ℕ → Vec F S1024 .f32
  | 0 => fun _ => Scalar.ofBits .f32 0x00000000#32
  | n + 1 => if h : ∀ (a : Fin S1024.rank) (x : S16.Idx), ((![grp lbl n] : Fin 1 → IVec S16 32) a x).toNat < S1024.size a
      then storeIdx (s := S1024) (Hg n) ![grp lbl n] (k1_pay6 fun _ => Scalar.ofBits .f32 0x3F800000#32) (fun _ => 1#1) true h else Hg n

/-- The bins after `t` tiles' turns. -/
def Ht (t : ℕ) : Vec F S1024 .f32 := Hg lbl (64 * t)

/-- A bin. -/
def bin (v : BitVec 32) : S1024.Idx := fun a => ⟨v.toNat % 1024, by obtain rfl : a = 0 := Subsingleton.elim _ _; exact Nat.mod_lt _ (by decide)⟩

/-- The counts the call writes: for each label, its bin. -/
def cntF : Vec F S16384 .f32 := fun i => Ht lbl 16 (bin (lbl i))

/-- Group `n` of the bins. -/
def binGrp (f : Vec F S1024 .f32) (n : ℕ) : Vec F S16 .f32 :=
  fun x => f fun a => ⟨(16 * n + (x 0).val) % 1024, by obtain rfl : a = 0 := Subsingleton.elim _ _; exact Nat.mod_lt _ (by decide)⟩

/-- The number of bins that are not zero, by lanes, over the first `n` groups. -/
def pres (f : Vec F S1024 .f32) : ℕ → Vec F S16 .f32
  | 0 => k1_pay3
  | n + 1 => k1_pay1 (pres f n) (binGrp f n)

/-- What the call writes of it. -/
def presF : Vec F S16 .f32 := k1_pay2 (pres (Ht lbl 16) 64)

end Values

abbrev lblB (d : Dev nD) : S16384.Idx → BitVec 32 := m (lblLoc d)

/-- The labels are in range. -/
def Labels : Prop := ∀ d (i : S16384.Idx), (lblB m d i).toNat < 1000

/-! ## The meetings -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

/-- Who puts something down at a meeting: tile 0 at the first, then the tile whose turn it was. -/
def giver (r : ℕ) : Fin (grid1.bound 1) := ⟨(r - 1) % 16, Nat.mod_lt _ (by decide)⟩

/-- What tile `j` takes away from meeting `r`: before the last, the bins whole to the tile whose turn is next; at the
    last, a part of them to every tile. -/
def pay (d : Dev nD) (c : Fin τ.nSC) (r : ℕ) (j : Fin (grid1.bound 1)) : sProp 𝕄 :=
  if r < 16 then (if j.val = r then iprop(shLoc d c ↦{fullShare} (Ht (lblB m d) r : Vec F S1024 .f32)) else iprop(emp))
  else iprop(shLoc d c ↦{part 4 fullShare j.val} (Ht (lblB m d) 16 : Vec F S1024 .f32))

instance pay_storable (d : Dev nD) (c : Fin τ.nSC) (r : ℕ) (j : Fin (grid1.bound 1)) :
    BI.Storable (upEmb : UEmb _ 𝕄) (pay m d c r j) := by
  unfold pay; split
  · split <;> infer_instance
  · infer_instance

/-- The one invariant of SparseCore `c`'s barrier cells. -/
abbrev mInv (d : Dev nD) (c : Fin τ.nSC) : sProp 𝕄 := Turns.body EB d c sc_bar0 hsub1 17 giver (pay m d c)

/-- What a tile owes for the meetings from `k` on: a unit on every tile's cell of its SparseCore at each. -/
def oxV (d : Dev nD) (c : Fin τ.nSC) (k : ℕ) : CellTallies nD τ sig (HIx 17) :=
  ∑ r ∈ Finset.Ico k 17, ∑ j : Fin (grid1.bound 1), tallyAt (bcell d c (j.castLE hsub1)) (stg r) 1

omit [FloatOps F] in
theorem oxV_step (d : Dev nD) (c : Fin τ.nSC) {k : ℕ} (h : k < 17) :
    oxV d c k = (∑ j : Fin (grid1.bound 1), tallyAt (bcell d c (j.castLE hsub1)) (stg k) 1) + oxV d c (k + 1) := by
  unfold oxV
  rw [show Finset.Ico k 17 = insert k (Finset.Ico (k + 1) 17) by ext x; simp only [Finset.mem_Ico, Finset.mem_insert]; omega,
    Finset.sum_insert (by simp)]

omit [FloatOps F] in
theorem oxV_end (d : Dev nD) (c : Fin τ.nSC) : oxV d c 17 = 0 := by unfold oxV; rw [Finset.Ico_self, Finset.sum_empty]

omit [FloatOps F] in
theorem oxV_pos {d : Dev nD} {c : Fin τ.nSC} {k : ℕ} {g : GSem nD τ sig} {ι : HIx 17} (h : 0 < oxV d c k g ι) :
    ∃ r, ∃ j : Fin (grid1.bound 1), k ≤ r ∧ r < 17 ∧ g = bcell d c (j.castLE hsub1) ∧ ι = stg r := by
  unfold oxV at h
  rw [Finset.sum_apply, Finsupp.finsetSum_apply] at h
  obtain ⟨r, hr, hi⟩ := Finset.exists_ne_zero_of_sum_ne_zero (Nat.pos_iff_ne_zero.mp h)
  rw [Finset.sum_apply, Finsupp.finsetSum_apply] at hi
  obtain ⟨j, -, hj⟩ := Finset.exists_ne_zero_of_sum_ne_zero hi
  rw [tallyAt_apply] at hj
  split at hj
  · next e => exact ⟨r, j, (Finset.mem_Ico.mp hr).1, (Finset.mem_Ico.mp hr).2, e.1, e.2⟩
  · exact absurd rfl hj

omit [FloatOps F] in
theorem oxV_none (d : Dev nD) (c : Fin τ.nSC) (k : ℕ) (g : GSem nD τ sig) : oxV d c k g none = 0 := by
  by_contra h
  obtain ⟨r, j, -, -, -, e⟩ := oxV_pos (Nat.pos_of_ne_zero h)
  exact nomatch e

omit [FloatOps F] in
theorem lev_bcell (d : Dev nD) (c : Fin τ.nSC) (j : Fin τ.nSub) {r : ℕ} (h : r < 17) :
    (K (F := F)).lev (bcell d c j) (stg r) = 8 * r + 3 := by
  unfold stg
  rw [(K (F := F)).lev_V_reg d c j (show (sc_bar0 : Sem sig) ≠ (K (F := F)).go from sc_bar0_ne_go), stg_val h]

omit [FloatOps F] in
theorem lev_oxV {d : Dev nD} {c : Fin τ.nSC} {k : ℕ} {g : GSem nD τ sig} {ι : HIx 17} (h : 0 < oxV d c k g ι) :
    8 * k + 3 ≤ (K (F := F)).lev g ι ∧ (K (F := F)).lev g ι ≤ 8 * 16 + 5 := by
  obtain ⟨r, j, h1, h2, rfl, rfl⟩ := oxV_pos h
  rw [lev_bcell d c _ h2]; omega

/-- A tile's kit for the meetings: the invariant, its tokens, its credits, its place. -/
def bkit (d : Dev nD) (c : Fin τ.nSC) (i : Fin τ.nSub) : sProp 𝕄 :=
  iprop((∃ κ : ℕ, inv κ (mInv m d c))
    ∗ (bigSep (Finset.range 17) fun r => bigSep Finset.univ fun j : Fin (grid1.bound 1) => dutyTok EB (bcell d c (j.castLE hsub1)) r i.val)
    ∗ (bigSep (Finset.range 17) fun r => cred (tallyAt (bcell d c i) (stg r) (grid1.bound 1)))
    ∗ atPos EB (bcell d c i) 0 ∅ 0)

/-! ## What the handshakes carry -/

/-- A tile's operands and results: its part of the labels, its block of the counts, and, of tile 0 of SparseCore 0, the
    array of the numbers of present bins. -/
def tilePts (d : Dev nD) (c : Fin 2) (i : Fin 16) (f : Buf (Elt F) (crLoc d)) (g : Buf (Elt F) (dLoc d)) : sProp 𝕄 :=
  iprop((lblLoc d ↦{part 5 fullShare (blockOf c i).val} m (lblLoc d))
    ∗ (crLoc d ↦[(blk (blockOf c i)).set]{fullShare} f)
    ∗ (if c = 0 ∧ i = 0 then iprop(dLoc d ↦{fullShare} g) else iprop(emp)))

instance tilePts_storable (d : Dev nD) (c : Fin 2) (i : Fin 16) (f : Buf (Elt F) (crLoc d)) (g : Buf (Elt F) (dLoc d)) :
    BI.Storable (upEmb : UEmb _ 𝕄) (tilePts m d c i f g) := by
  unfold tilePts; split <;> infer_instance

/-- The shared bins, to tile 0. -/
def shAny (d : Dev nD) (c : Fin τ.nSC) (i : Fin 16) : sProp 𝕄 :=
  if i = 0 then iprop(∃ f, shLoc d c ↦{fullShare} f) else iprop(emp)

instance shAny_storable (d : Dev nD) (c : Fin τ.nSC) (i : Fin 16) : BI.Storable (upEmb : UEmb _ 𝕄) (shAny (F := F) d c i) := by
  unfold shAny; split <;> infer_instance

abbrev shEnd (d : Dev nD) (c : Fin τ.nSC) (i : Fin 16) : sProp 𝕄 :=
  iprop(shLoc d c ↦{part 4 fullShare i.val} (Ht (lblB m d) 16 : Vec F S1024 .f32))

abbrev crF (d : Dev nD) : Buf (Elt F) (crLoc d) := (cntF (lblB m d) : Vec F S16384 .f32)
abbrev dF (d : Dev nD) : Buf (Elt F) (dLoc d) := (presF (lblB m d) : Vec F S16 .f32)

/-- The barrier semaphores of the tasks of SparseCore `c`, at zero. -/
abbrev bars (d : Dev nD) (c : Fin ((K (F := F)).nCore 0)) : sProp 𝕄 :=
  bigSep Finset.univ fun i : Fin 16 => semVal (bcell d (coreOf c) ((K (F := F)).sub 0 (Fin.cast nSub_zero.symm i))) 0

set_option backward.proofsInPublic true in
/-- The one call: each SparseCore is handed its tiles' operands and brings back their results. -/
def P : (K (F := F)).Pay (N := 17) (nD := nD) (Val := Elt F) (Name := ℕ) (U := UU) where
  st := fun q d c => match q with
    | 0 => bigSep Finset.univ fun i : Fin 16 => tilePts m d (Fin.cast nCore_zero c) i (m (crLoc d)) (m (dLoc d))
  dn := fun q d c => match q with
    | 0 => iprop((bigSep Finset.univ fun i : Fin 16 => tilePts m d (Fin.cast nCore_zero c) i (crF m d) (dF m d)) ∗ bars d c)
  go := fun q d c i => match q with
    | 0 => iprop(tilePts m d (Fin.cast nCore_zero c) (Fin.cast nSub_zero i) (m (crLoc d)) (m (dLoc d))
        ∗ shAny d (coreOf c) (Fin.cast nSub_zero i))
  td := fun q d c i => match q with
    | 0 => iprop((tilePts m d (Fin.cast nCore_zero c) (Fin.cast nSub_zero i) (crF m d) (dF m d)
        ∗ shEnd m d (coreOf c) (Fin.cast nSub_zero i)) ∗ semVal (bcell d (coreOf c) ((K (F := F)).sub 0 i)) 0)
  x := fun _ thr => match thr with
    | (d, .scVector c i) => bkit m d c i
    | _ => iprop(emp)
  ox := fun _ thr => match thr with
    | (d, .scVector c _) => oxV d c 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · exact lev_oxV h
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄)
      (bigSep Finset.univ fun i : Fin 16 => tilePts m d (Fin.cast nCore_zero c) i (m (crLoc d)) (m (dLoc d))))
  dn q d c := match q with
    | 0 => (inferInstance : BI.Storable (upEmb : UEmb _ 𝕄)
      iprop((bigSep Finset.univ fun i : Fin 16 => tilePts m d (Fin.cast nCore_zero c) i (crF m d) (dF m d)) ∗ bars d c))
  go q d c i := match q with
    | 0 => (inferInstance : BI.Storable (upEmb : UEmb _ 𝕄)
      iprop(tilePts m d (Fin.cast nCore_zero c) (Fin.cast nSub_zero i) (m (crLoc d)) (m (dLoc d)) ∗ shAny d (coreOf c) (Fin.cast nSub_zero i)))
  td q d c i := match q with
    | 0 => (inferInstance : BI.Storable (upEmb : UEmb _ 𝕄)
      iprop((tilePts m d (Fin.cast nCore_zero c) (Fin.cast nSub_zero i) (crF m d) (dF m d)
        ∗ shEnd m d (coreOf c) (Fin.cast nSub_zero i)) ∗ semVal _ 0))

end Cert.Proof.Sc

end
-- ==== Proof.Rows.lean ====
module

public import proofs.«01_k».proof.Proof.Setup
public import Idealize.ShloMosaic.Lib.WritesUnit

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

local notation "lbV" => (Memref.whole Cert.KernelIdeal.main_arg1_scv : Memref Cert.KernelIdeal.sig Kind.scVector Space.hbm Cert.KernelIdeal.S16384 EltTy.i32)
local notation "crV" => (Memref.whole Cert.KernelIdeal.main_v2_0_scv : Memref Cert.KernelIdeal.sig Kind.scVector Space.hbm Cert.KernelIdeal.S16384 EltTy.f32)
local notation "ddV" => (Memref.whole Cert.KernelIdeal.main_v2_1_scv : Memref Cert.KernelIdeal.sig Kind.scVector Space.hbm Cert.KernelIdeal.S16 EltTy.f32)
local notation "rwV" => (Memref.whole Cert.KernelIdeal.cc1_scratch0 : Memref Cert.KernelIdeal.sig Kind.scVector Space.vmem Cert.KernelIdeal.S8x128 EltTy.i32)
local notation "onV" => (Memref.whole Cert.KernelIdeal.cc1_scratch1 : Memref Cert.KernelIdeal.sig Kind.scVector Space.vmem Cert.KernelIdeal.S128 EltTy.f32)
local notation "biV" => (Memref.whole Cert.KernelIdeal.cc1_scratch2 : Memref Cert.KernelIdeal.sig Kind.scVector Space.vmem Cert.KernelIdeal.S1024 EltTy.f32)
local notation "shV" => (Memref.whole Cert.KernelIdeal.cc1_scratch3 : Memref Cert.KernelIdeal.sig Kind.scVector Space.shared Cert.KernelIdeal.S1024 EltTy.f32)
local notation "l2V" => (Memref.whole Cert.KernelIdeal.cc1_scratch4 : Memref Cert.KernelIdeal.sig Kind.scVector Space.vmem Cert.KernelIdeal.S512 EltTy.i32)
local notation "coV" => (Memref.whole Cert.KernelIdeal.cc1_scratch5 : Memref Cert.KernelIdeal.sig Kind.scVector Space.vmem Cert.KernelIdeal.S512 EltTy.f32)
local notation "prV" => (Memref.whole Cert.KernelIdeal.cc1_scratch6 : Memref Cert.KernelIdeal.sig Kind.scVector Space.vmem Cert.KernelIdeal.S16 EltTy.f32)

variable (m : (ℓ : Loc nD τ sig) → Buf (Elt F) ℓ) (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The waits recorded beyond `W`: at no stage, or at a stage of the call. -/
def Rec (W W' : Waits sig (HIx 17)) : Prop := ∀ p ∈ W', p ∈ W ∨ p.2 = none ∨ ∃ j, p.2 = some j

omit [FloatOps F] in
theorem Rec.refl (W : Waits sig (HIx 17)) : Rec W W := fun _ h => .inl h
omit [FloatOps F] in
theorem Rec.idle {W W' : Waits sig (HIx 17)} (h : Rec W W') (s : SemLoc sig) : Rec W (insert (s, (default : HIx 17)) W') := fun p hp => by
  rcases Finset.mem_insert.mp hp with hp | hp
  · exact .inr (.inl (hp ▸ rfl))
  · exact h p hp
omit [FloatOps F] in
theorem Rec.met {W W' : Waits sig (HIx 17)} (h : Rec W W') (s : SemLoc sig) (r : ℕ) : Rec W (insert (s, stg r) W') := fun p hp => by
  rcases Finset.mem_insert.mp hp with hp | hp
  · exact .inr (.inr ⟨Fin.ofNat 17 r, by rw [hp]; rfl⟩)
  · exact h p hp

/-- The DMA semaphore of number `n`, of the tile's. -/
abbrev sc_ (d : Dev nD) (L : grid1.Coords) (s : DmaSem sig) : GSem nD τ sig := (thr d L, .dma s)

/-- What the first part of the body hands on. -/
def ret1 (L : grid1.Coords) : Σ' (_ : BitVec 32) (_ : BitVec 32) (_ : FVec F S16 .f32), BitVec 32 :=
  ⟨BitVec.ofNat 32 (L 0).val, BitVec.ofNat 32 (L 1).val, k1_pay3 (F := F), Scalar.muli (BitVec.ofNat 32 (L 1).val) 1024#32⟩

/-! ## The contents of the tile's buffers -/

section Contents

variable (lbl : S16384.Idx → BitVec 32)

/-- The first `k` rows of tile `s`'s staging buffer are the labels of its chunk. -/
def RowsAt (s k : ℕ) (f : S8x128.Idx → BitVec 32) : Prop :=
  ∀ x : S8x128.Idx, (x 0).val < k → f x = lbl (ix (1024 * s + 128 * (x 0).val + (x 1).val))

/-- A vector's index from its one coordinate. -/
def at1 {n : ℕ} (i : Fin n) : (⟨1, ![n]⟩ : Shape).Idx := fun a => match a with | ⟨0, _⟩ => i

theorem row_emb (j : ℕ) (inb : ∀ a, (![j, 0] : Fin 2 → ℕ) a + S1x128.size a ≤ S8x128.size a)
    (hp : ∀ a, (Rect.unit (s := S8x128) ![j, 0] S1x128.size inb).stride a = 1) (y : S128.Idx) :
    ((((rwV).slice (Rect.unit (s := S8x128) ![j, 0] S1x128.size inb) hp).squeeze S128 squeezes_S1x128_S128).view.emb y : S8x128.Idx)
      = fun a => match a with | ⟨0, _⟩ => ⟨j, by have := inb 0; exact this⟩ | ⟨1, _⟩ => y 0 := by
  have e : ((((rwV).slice (Rect.unit (s := S8x128) ![j, 0] S1x128.size inb) hp).squeeze S128 squeezes_S1x128_S128).view.emb y : S8x128.Idx)
      = (Rect.unit (s := S8x128) ![j, 0] S1x128.size inb).emb (Shape.reshapeEquiv squeezes_S1x128_S128.numel_eq y) := rfl
  rw [e, Shape.reshapeEquiv_cons_one (n := 1) (d := ![128])]
  funext a
  refine Fin.ext ?_
  match a with
  | ⟨0, _⟩ => show j + 1 * 0 = j; omega
  | ⟨1, _⟩ => show 0 + 1 * (y 0).val = (y 0).val; omega

theorem row_step {s j : ℕ} (inb : ∀ a, (![j, 0] : Fin 2 → ℕ) a + S1x128.size a ≤ S8x128.size a)
    (hp : ∀ a, (Rect.unit (s := S8x128) ![j, 0] S1x128.size inb).stride a = 1) {f : S8x128.Idx → BitVec 32} {w : S128.Idx → BitVec 32}
    (h : RowsAt lbl s j f) (hw : ∀ y : S128.Idx, w y = lbl (ix (1024 * s + 128 * j + (y 0).val))) :
    RowsAt lbl s (j + 1) ((((rwV).slice (Rect.unit (s := S8x128) ![j, 0] S1x128.size inb) hp).squeeze S128 squeezes_S1x128_S128).view.write
      (Elt F) f w Finset.univ) := by
  intro x hx
  set v := (((rwV).slice (Rect.unit (s := S8x128) ![j, 0] S1x128.size inb) hp).squeeze S128 squeezes_S1x128_S128).view with hv
  rcases Nat.lt_succ_iff_lt_or_eq.mp hx with hl | he
  · rw [← h x hl]
    refine View.write_of_not_mem (v := v) (Val := Elt F) f w Finset.univ (i := x) fun hm => ?_
    obtain ⟨y, -, e⟩ := Finset.mem_map.mp hm
    have e' := congrArg (fun i : S8x128.Idx => (i 0).val) ((row_emb j inb hp y).symm.trans e)
    exact absurd e' (Nat.ne_of_gt hl)
  · have e : (v.emb (at1 (x 1) : S128.Idx) : S8x128.Idx) = x := by
      refine (row_emb j inb hp _).trans (funext fun a => Fin.ext ?_)
      match a with
      | ⟨0, _⟩ => exact he.symm
      | ⟨1, _⟩ => rfl
    have e2 := View.write_emb_of_mem (v := v) (Val := Elt F) f w (Finset.mem_univ (at1 (x 1) : S128.Idx))
    rw [e] at e2
    rw [e2]
    subst he
    exact hw _

/-- A stretch of the labels, as a copy reads it. -/
theorem read_lbl {off size : Fin 1 → ℕ} {n : ℕ} (inb : ∀ a, off a + size a ≤ S16384.size a) (ho : off = ![n])
    (hp : ∀ a, (Rect.unit (s := S16384) off size inb).stride a = 1) (y : (Rect.unit (s := S16384) off size inb).shape.Idx) :
    (((lbV).slice (Rect.unit (s := S16384) off size inb) hp).view.read (Elt F) lbl y : BitVec 32) = lbl (ix (n + (y 0).val)) := by
  subst ho
  show lbl _ = lbl _
  congr 1
  funext a
  refine Fin.ext ?_
  have hy : (y 0).val < size 0 := (y 0).isLt
  have hb : n + size 0 ≤ 16384 := inb 0
  match a with
  | ⟨0, _⟩ => show n + 1 * (y 0).val = (n + (y 0).val) % 16384; rw [Nat.mod_eq_of_lt (by omega)]; omega

/-- The labels of the tile's block of 512. -/
def BlkAt (s c : ℕ) (f : S512.Idx → BitVec 32) : Prop := ∀ x : S512.Idx, f x = lbl (ix (1024 * s + 512 * c + (x 0).val))

/-- Zeros in the first `t` groups of 16 bins, then in one more. -/
theorem zero_step (t : Fin k1_t1_loop.trips) (fb : S1024.Idx → F .f32) (inb) :
    ((biV).view.writes (Elt F) (fun n : S1024.Idx => if (n 0).val < 16 * t.val then (Scalar.ofBits .f32 0x00000000#32 : F .f32) else fb n)
        [⟨Rect.unit (s := S1024) (k1_off2 t) S16.size inb, (k1_pay4 : FVec F S16 .f32)⟩] : S1024.Idx → F .f32)
      = fun n => if (n 0).val < 16 * (t.val + 1) then Scalar.ofBits .f32 0x00000000#32 else fb n := by
  funext n
  have e := View.read_writes_cons_unit (v := (biV).view) (Val := Elt F) (fun n : S1024.Idx => if (n 0).val < 16 * t.val then (Scalar.ofBits .f32 0x00000000#32 : F .f32) else fb n)
    inb (k1_pay4 : FVec F S16 .f32) [] n (k1_off2_eq t)
  refine Eq.trans e ?_
  split
  · next h =>
    have h0 := h 0
    have : (n 0).val < 16 * (t.val + 1) := by have : (n 0).val < 16 * t.val + 16 := h0.2; omega
    rw [if_pos this]; rfl
  · next h =>
    have h' : ¬(16 * t.val ≤ (n 0).val ∧ (n 0).val < 16 * t.val + 16) := fun hh => h fun a => match a with | ⟨0, _⟩ => hh
    show (if (n 0).val < 16 * t.val then _ else _) = _
    by_cases c : (n 0).val < 16 * t.val
    · rw [if_pos c, if_pos (by omega)]
    · rw [if_neg c, if_neg (by omega)]; rfl

theorem one_step (t : Fin k1_t2_loop.trips) (fb : S128.Idx → F .f32) (inb) :
    ((onV).view.writes (Elt F) (fun n : S128.Idx => if (n 0).val < 16 * t.val then (Scalar.ofBits .f32 0x3F800000#32 : F .f32) else fb n)
        [⟨Rect.unit (s := S128) (k1_off3 t) S16.size inb, (k1_pay5 : FVec F S16 .f32)⟩] : S128.Idx → F .f32)
      = fun n => if (n 0).val < 16 * (t.val + 1) then Scalar.ofBits .f32 0x3F800000#32 else fb n := by
  funext n
  have e := View.read_writes_cons_unit (v := (onV).view) (Val := Elt F) (fun n : S128.Idx => if (n 0).val < 16 * t.val then (Scalar.ofBits .f32 0x3F800000#32 : F .f32) else fb n)
    inb (k1_pay5 : FVec F S16 .f32) [] n (k1_off3_eq t)
  refine Eq.trans e ?_
  split
  · next h =>
    have h0 := h 0
    have : (n 0).val < 16 * (t.val + 1) := by have : (n 0).val < 16 * t.val + 16 := h0.2; omega
    rw [if_pos this]; rfl
  · next h =>
    have h' : ¬(16 * t.val ≤ (n 0).val ∧ (n 0).val < 16 * t.val + 16) := fun hh => h fun a => match a with | ⟨0, _⟩ => hh
    show (if (n 0).val < 16 * t.val then _ else _) = _
    by_cases c : (n 0).val < 16 * t.val
    · rw [if_pos c, if_pos (by omega)]
    · rw [if_neg c, if_neg (by omega)]; rfl

end Contents

end Cert.Proof.Sc
-- ==== Proof.Meet.lean ====
module

public import proofs.«01_k».proof.Proof.Rows

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

local notation "lbV" => (Memref.whole Cert.KernelIdeal.main_arg1_scv : Memref Cert.KernelIdeal.sig Kind.scVector Space.hbm Cert.KernelIdeal.S16384 EltTy.i32)
local notation "crV" => (Memref.whole Cert.KernelIdeal.main_v2_0_scv : Memref Cert.KernelIdeal.sig Kind.scVector Space.hbm Cert.KernelIdeal.S16384 EltTy.f32)
local notation "ddV" => (Memref.whole Cert.KernelIdeal.main_v2_1_scv : Memref Cert.KernelIdeal.sig Kind.scVector Space.hbm Cert.KernelIdeal.S16 EltTy.f32)
local notation "rwV" => (Memref.whole Cert.KernelIdeal.cc1_scratch0 : Memref Cert.KernelIdeal.sig Kind.scVector Space.vmem Cert.KernelIdeal.S8x128 EltTy.i32)
local notation "onV" => (Memref.whole Cert.KernelIdeal.cc1_scratch1 : Memref Cert.KernelIdeal.sig Kind.scVector Space.vmem Cert.KernelIdeal.S128 EltTy.f32)
local notation "biV" => (Memref.whole Cert.KernelIdeal.cc1_scratch2 : Memref Cert.KernelIdeal.sig Kind.scVector Space.vmem Cert.KernelIdeal.S1024 EltTy.f32)
local notation "shV" => (Memref.whole Cert.KernelIdeal.cc1_scratch3 : Memref Cert.KernelIdeal.sig Kind.scVector Space.shared Cert.KernelIdeal.S1024 EltTy.f32)
local notation "l2V" => (Memref.whole Cert.KernelIdeal.cc1_scratch4 : Memref Cert.KernelIdeal.sig Kind.scVector Space.vmem Cert.KernelIdeal.S512 EltTy.i32)
local notation "coV" => (Memref.whole Cert.KernelIdeal.cc1_scratch5 : Memref Cert.KernelIdeal.sig Kind.scVector Space.vmem Cert.KernelIdeal.S512 EltTy.f32)
local notation "prV" => (Memref.whole Cert.KernelIdeal.cc1_scratch6 : Memref Cert.KernelIdeal.sig Kind.scVector Space.vmem Cert.KernelIdeal.S16 EltTy.f32)

variable (m : (ℓ : Loc nD τ sig) → Buf (Elt F) ℓ) (d : Dev nD) (L : grid1.Coords)

/-! ## A meeting -/

/-- What a tile holds for the meetings from `r` on. -/
def kitAt (r : ℕ) : sProp 𝕄 :=
  iprop((bigSep (Finset.Ico r 17) fun r' => bigSep Finset.univ fun j : Fin (grid1.bound 1) => dutyTok EB (bcell d (cV L) (j.castLE hsub1)) r' (L 1).val)
    ∗ (bigSep (Finset.Ico r 17) fun r' => cred (tallyAt (bcell d (cV L) (jV L)) (stg r') (grid1.bound 1)))
    ∗ atPos EB (bcell d (cV L) (jV L)) r ∅ r)

omit [FloatOps F] in
theorem Ico_step {r : ℕ} (h : r < 17) : Finset.Ico r 17 = insert r (Finset.Ico (r + 1) 17) := by
  ext x; simp only [Finset.mem_Ico, Finset.mem_insert]; omega

theorem kitAt_step {r : ℕ} (h : r < 17) :
    kitAt (F := F) d L r ⊢ iprop((bigSep Finset.univ fun j : Fin (grid1.bound 1) => dutyTok EB (bcell d (cV L) (j.castLE hsub1)) r (L 1).val)
      ∗ cred (tallyAt (bcell d (cV L) (jV L)) (stg r) (grid1.bound 1))
      ∗ atPos EB (bcell d (cV L) (jV L)) r ∅ r
      ∗ (atPos EB (bcell d (cV L) (jV L)) (r + 1) ∅ (r + 1) -∗ kitAt (F := F) d L (r + 1))) := by
  unfold kitAt
  rw [Ico_step h, Turns.insert' (by simp), Turns.insert' (by simp)]
  iintro ⟨⟨Ht, Hts⟩, ⟨Hc, Hcs⟩, Ha⟩
  isplitl [Ht]; · iexact Ht
  isplitl [Hc]; · iexact Hc
  isplitl [Ha]; · iexact Ha
  iintro Ha
  isplitl [Hts]; · iexact Hts
  isplitl [Hcs]; · iexact Hcs
  iexact Ha

variable {α : Type} {Φ : α → sProp (MT nD τ sig (HIx 17) (Elt F) ℕ UU ℕ)}

/-- A meeting of the tiles of the SparseCore, from the tile's side. -/
theorem meet {κ : ℕ} {r : ℕ} (hr : r < 17) (O : CellTallies nD τ sig (HIx 17)) (hO : ∀ g ι, 0 < O g ι → 134 ≤ (K (F := F)).lev g ι)
    (W : Waits sig (HIx 17)) {k' : PUnit → Prog (TpuEff nD τ sig (Elt F) Λ₀ (.scVector (cV L) (jV L))) α} :
    iprop(((inv κ (mInv m d (cV L)) : sProp 𝕄)) ∗ levAts (K (F := F)).L (K (F := F)).lev
        ∗ owes (thr d L) (O + oxV d (cV L) r) W ∗ kitAt (F := F) d L r ∗ Turns.deposit giver (pay m d (cV L)) r (L 1))
      ⊢ iprop((iprop(owes (thr d L) (O + oxV d (cV L) (r + 1)) (insert (SemLoc.reg sc_bar0, stg r) W) ∗ kitAt (F := F) d L (r + 1) ∗ pay m d (cV L) r (L 1))
          -∗ wp frame (wpE (defs₀ (F := F)) 𝒱₀ (thr d L) none) Set.univ (k' ⟨⟩) Φ)
        -∗ wp frame (wpE (defs₀ (F := F)) 𝒱₀ (thr d L) none) Set.univ (SparseCore.subcoreBarrier sc_bar0 (grid1.bound 1) hsub1 >>= k') Φ) := by
  iintro ⟨#Hinv, #Hlv, HO, Hkit, Hdep⟩ Hk
  ihave Hkit := (kitAt_step (F := F) d L hr) $$ Hkit
  icases Hkit with ⟨Ht, Hc, Ha, Hnext⟩
  iapply (Turns.wp_meet 𝒱₀ none EB d (cV L) sc_bar0 hsub1 17 giver (pay m d (cV L)) (L 1) rfl hr (stg r) (O + oxV d (cV L) (r + 1)) W) $$ [HO Ht Hc Ha Hdep]
  · isplitr; · iexact Hinv
    isplitl [HO]
    · ihave HO := (Entails.of_eq (show (owes (thr d L) (O + oxV d (cV L) r) W : sProp 𝕄)
        = owes (thr d L) (O + oxV d (cV L) (r + 1) + ∑ j : Fin (grid1.bound 1), tallyAt (bcell d (cV L) (j.castLE hsub1)) (stg r) 1) W by
          rw [oxV_step d (cV L) hr, add_comm (∑ j : Fin (grid1.bound 1), _), add_assoc])) $$ HO
      iexact HO
    isplitl [Ht]; · iexact Ht
    isplitl [Hdep]; · iexact Hdep
    isplitl [Hc]; · iexact Hc
    isplitl [Ha]; · iexact Ha
    iapply ((K (F := F)).mayOwe_of_bound (thr := thr d L) (8 * r + 3) (fun p hp => by
        rw [Finset.mem_singleton] at hp; subst hp
        exact (lev_bcell (F := F) d (cV L) (jV L) hr).le)
      (fun g ι hg => by
        have hg' : 0 < O g ι + oxV d (cV L) (r + 1) g ι := hg
        rcases Nat.eq_zero_or_pos (O g ι) with h0 | h0
        · have := (lev_oxV (F := F) (show 0 < oxV d (cV L) (r + 1) g ι by omega)).1
          omega
        · have := hO g ι h0
          omega))
    iexact Hlv
  iintro ⟨HO, Ha, Hp⟩
  iapply Hk
  isplitl [HO]; · iexact HO
  isplitl [Ha Hnext]; · iapply Hnext; iexact Ha
  iexact Hp

theorem bigSep_emp' {I : Type} (s : Finset I) : (bigSep s fun _ => iprop(emp)) = (iprop(emp) : sProp 𝕄) := bigSep_emp_const s

theorem giver_succ (t : ℕ) (h : t < 16) : giver (t + 1) = ⟨t, h⟩ := Fin.ext (Nat.mod_eq_of_lt h)

/-- The bins, to the next meeting. -/
theorem deposit_intro {r : ℕ} (hr : r < 17) {k : Fin (grid1.bound 1)} (hk : giver r = k) :
    (shLoc d (cV L) ↦{fullShare} (Ht (lblB m d) r : Vec F S1024 .f32) : sProp 𝕄) ⊢ Turns.deposit giver (pay m d (cV L)) r k := by
  unfold Turns.deposit
  rw [if_pos hk]
  by_cases h : r < 16
  · rw [show (bigSep Finset.univ (pay m d (cV L) r) : sProp 𝕄) = bigSep Finset.univ fun j : Fin (grid1.bound 1) =>
        if j.val = r then iprop(shLoc d (cV L) ↦{fullShare} (Ht (lblB m d) r : Vec F S1024 .f32)) else iprop(emp) from
      bigSep_congr fun j _ => by unfold pay; rw [if_pos h]]
    have hu : (Finset.univ : Finset (Fin (grid1.bound 1))) = insert (⟨r, h⟩ : Fin (grid1.bound 1)) (Finset.univ.erase ⟨r, h⟩) := (Finset.insert_erase (Finset.mem_univ _)).symm
    rw [hu, Turns.insert' (Finset.notMem_erase _ _), if_pos rfl]
    rw [show (bigSep (Finset.univ.erase (⟨r, h⟩ : Fin (grid1.bound 1))) fun j : Fin (grid1.bound 1) =>
        if j.val = r then iprop(shLoc d (cV L) ↦{fullShare} (Ht (lblB m d) r : Vec F S1024 .f32)) else iprop(emp) : sProp 𝕄)
      = bigSep (Finset.univ.erase (⟨r, h⟩ : Fin (grid1.bound 1))) fun _ => iprop(emp) from
      bigSep_congr fun j hj => if_neg fun e => (Finset.mem_erase.mp hj).1 (Fin.ext e), bigSep_emp']
    iintro H
    isplitl [H]; · iexact H
    iempintro
  · obtain rfl : r = 16 := by omega
    rw [pts_parts Finset.univ _ 4 fullShare]
    exact Entails.of_eq (bigSep_congr fun j _ => by unfold pay; rw [if_neg (by decide)])

theorem deposit_none {r : ℕ} {k : Fin (grid1.bound 1)} (hk : giver r ≠ k) : (iprop(emp) : sProp 𝕄) ⊢ Turns.deposit giver (pay m d (cV L)) r k := by
  unfold Turns.deposit; rw [if_neg hk]

end Cert.Proof.Sc
-- ==== Proof.Turn.lean ====
module

public import proofs.«01_k».proof.Proof.Meet

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

local notation "lbV" => (Memref.whole Cert.KernelIdeal.main_arg1_scv : Memref Cert.KernelIdeal.sig Kind.scVector Space.hbm Cert.KernelIdeal.S16384 EltTy.i32)
local notation "crV" => (Memref.whole Cert.KernelIdeal.main_v2_0_scv : Memref Cert.KernelIdeal.sig Kind.scVector Space.hbm Cert.KernelIdeal.S16384 EltTy.f32)
local notation "ddV" => (Memref.whole Cert.KernelIdeal.main_v2_1_scv : Memref Cert.KernelIdeal.sig Kind.scVector Space.hbm Cert.KernelIdeal.S16 EltTy.f32)
local notation "rwV" => (Memref.whole Cert.KernelIdeal.cc1_scratch0 : Memref Cert.KernelIdeal.sig Kind.scVector Space.vmem Cert.KernelIdeal.S8x128 EltTy.i32)
local notation "onV" => (Memref.whole Cert.KernelIdeal.cc1_scratch1 : Memref Cert.KernelIdeal.sig Kind.scVector Space.vmem Cert.KernelIdeal.S128 EltTy.f32)
local notation "biV" => (Memref.whole Cert.KernelIdeal.cc1_scratch2 : Memref Cert.KernelIdeal.sig Kind.scVector Space.vmem Cert.KernelIdeal.S1024 EltTy.f32)
local notation "shV" => (Memref.whole Cert.KernelIdeal.cc1_scratch3 : Memref Cert.KernelIdeal.sig Kind.scVector Space.shared Cert.KernelIdeal.S1024 EltTy.f32)
local notation "l2V" => (Memref.whole Cert.KernelIdeal.cc1_scratch4 : Memref Cert.KernelIdeal.sig Kind.scVector Space.vmem Cert.KernelIdeal.S512 EltTy.i32)
local notation "coV" => (Memref.whole Cert.KernelIdeal.cc1_scratch5 : Memref Cert.KernelIdeal.sig Kind.scVector Space.vmem Cert.KernelIdeal.S512 EltTy.f32)
local notation "prV" => (Memref.whole Cert.KernelIdeal.cc1_scratch6 : Memref Cert.KernelIdeal.sig Kind.scVector Space.vmem Cert.KernelIdeal.S16 EltTy.f32)

variable (m : (ℓ : Loc nD τ sig) → Buf (Elt F) ℓ) (d : Dev nD) (L : grid1.Coords)

theorem cond2_iff : ∀ (i : grid1.Coords) (t : Fin k1_t3_loop.trips), k1_cond2 i t = 1#1 ↔ (i 1).val = t.val := by decide +kernel
theorem off5_eq : ∀ t : Fin k1_t4_loop.trips, k1_off5 t = ![t.val / 8, 16 * (t.val % 8)] := by decide +kernel
theorem off6_eq : ∀ t : Fin k1_t4_loop.trips, k1_off6 t = ![16 * (t.val % 8)] := by decide +kernel

/-- A group of labels, read out of the staging buffer. -/
theorem grp_read {l : S16384.Idx → BitVec 32} {s g : ℕ} {f : S8x128.Idx → BitVec 32} (hf : RowsAt l s 8 f) {off : Fin 2 → ℕ}
    (inb : ∀ a, off a + S1x16.size a ≤ S8x128.size a) (ho : off = ![g / 8, 16 * (g % 8)]) {t : ℕ} (hs : s = t) :
    (shapeCast S16 (View.readAt (Elt F) (rwV).view (Rect.unit (s := S8x128) off S1x16.size inb).toLoadRect f : Vec F S1x16 .i32) shapeCasts_S1x16_S16 : IVec S16 32)
      = grp l (64 * t + g) := by
  subst ho hs
  funext x
  have hx : (x 0).val < 16 := (x 0).isLt
  have hg : g / 8 < 8 := by have := inb 0; exact this
  have e : (shapeCast S16 (View.readAt (Elt F) (rwV).view (Rect.unit (s := S8x128) ![g / 8, 16 * (g % 8)] S1x16.size inb).toLoadRect f : Vec F S1x16 .i32) shapeCasts_S1x16_S16 : IVec S16 32) x
      = f ((Rect.unit (s := S8x128) ![g / 8, 16 * (g % 8)] S1x16.size inb).toLoadRect.idx (Shape.reshapeEquiv shapeCasts_S1x16_S16 x)) := rfl
  rw [e, Shape.reshapeEquiv_cons_one (n := 1) (d := ![16])]
  rw [hf _ (show g / 8 + 1 * 0 < 8 by omega)]
  unfold grp
  congr 2
  show 1024 * s + 128 * (g / 8 + 1 * 0) + (16 * (g % 8) + 1 * (x 0).val) = 16 * (64 * s + g) + (x 0).val
  omega

/-- One group counted. -/
theorem Hg_step (l : S16384.Idx → BitVec 32) (n : ℕ) {v : IVec S16 32} {w : Vec F S16 .f32} (hv : v = grp l n)
    (hw : w = fun _ => Scalar.ofBits .f32 0x3F800000#32) (h : ∀ (a : Fin S1024.rank) (x : S16.Idx), ((![v] : Fin 1 → IVec S16 32) a x).toNat < S1024.size a) :
    storeIdx (s := S1024) (Hg l n : Vec F S1024 .f32) ![v] (k1_pay6 w) (fun _ => 1#1) true h = Hg l (n + 1) := by
  subst hv hw
  exact (dif_pos h).symm

theorem bi_access (f : Buf (Elt F) ((biV).view.loc (thr d L))) :
    (((biV).access (.whole S1024)).loc (thr d L) ↦[((biV).access (.whole S1024)).set]{fullShare} f : sProp 𝕄)
      = (biV).view.loc (thr d L) ↦{fullShare} f := by
  rw [show ((biV).access (.whole S1024)).set = Finset.univ from Memref.set_access_whole (cc1_scratch2 : Ref sig .scVector)]

/-- The scatter of a group, as a step of the bins. -/
theorem store_grp {α : Type} {Q : α → sProp 𝕄} (l : S16384.Idx → BitVec 32) (n : ℕ) {v : IVec S16 32} {w : Vec F S16 .f32}
    (hv : v = grp l n) (hw : w = fun _ => Scalar.ofBits .f32 0x3F800000#32)
    {h : ∀ (a : Fin S1024.rank) (x : S16.Idx), ((![v] : Fin 1 → IVec S16 32) a x).toNat < S1024.size a} {hs : ((biV).access (.whole S1024)).Stores Finset.univ}
    {k : PUnit → Prog (TpuEff nD τ sig (Elt F) Λ₀ (.scVector (cV L) (jV L))) α} :
    (((biV).view.loc (thr d L) ↦{fullShare} (Hg l n : Vec F S1024 .f32)) : sProp 𝕄)
      ⊢ iprop((((biV).view.loc (thr d L) ↦{fullShare} (Hg l (n + 1) : Vec F S1024 .f32)) -∗ wp frame (wpE (defs₀ (F := F)) 𝒱₀ (thr d L) none) Set.univ (k ⟨⟩) Q)
        -∗ wp frame (wpE (defs₀ (F := F)) 𝒱₀ (thr d L) none) Set.univ (SparseCore.vectorStoreIdx biV ![v] (k1_pay6 w) (fun _ => 1#1) true h hs >>= k) Q) := by
  rw [← Hg_step (F := F) l n hv hw h, ← bi_access, ← bi_access]
  have e := SparseCore.wp_vectorStoreIdx (defs := defs₀ (F := F)) 𝒱₀ (thr d L) none Set.univ (Q := Q) (base := biV) (idxs := ![v]) (v := k1_pay6 w) (mask := fun _ => 1#1) (add := true)
    (h := h) (hs := hs) (k := k) (f := (Hg l n : Vec F S1024 .f32))
  rw [Memref.write_access_whole_univ, Memref.read_access_whole] at e
  exact e

set_option maxHeartbeats 400000 in
theorem group_wp (hl : ∀ i, (lblB m d i).toNat < 1000) (arg1 v7 : BitVec 32) (t : Fin k1_t3_loop.trips) (h2 : k1_cond2 L t = 1#1) (k : Fin k1_t4_loop.trips) (a : Unit)
    (fr : Buf (Elt F) ((rwV).view.loc (thr d L))) (hr : RowsAt (lblB m d) (L 1).val 8 fr) :
    iprop((((rwV).view.loc (thr d L) ↦{fullShare} fr : sProp 𝕄))
        ∗ ((onV).view.loc (thr d L) ↦{fullShare} (fun _ => Scalar.ofBits .f32 0x3F800000#32 : Vec F S128 .f32))
        ∗ ((biV).view.loc (thr d L) ↦{fullShare} (Hg (lblB m d) (64 * t.val + k.val) : Vec F S1024 .f32)))
      ⊢ wp frame (wpE (defs₀ (F := F)) 𝒱₀ (thr d L) none) Set.univ
          (k1_t4_body L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18 arg1 v7 t h2 k a)
          fun _ => iprop(((rwV).view.loc (thr d L) ↦{fullShare} fr)
            ∗ ((onV).view.loc (thr d L) ↦{fullShare} (fun _ => Scalar.ofBits .f32 0x3F800000#32 : Vec F S128 .f32))
            ∗ ((biV).view.loc (thr d L) ↦{fullShare} (Hg (lblB m d) (64 * t.val + (k.val + 1)) : Vec F S1024 .f32))) := by
  unfold k1_t4_body
  iintro ⟨Hrw, Hon, Hbi⟩
  sl_exec
  have hv : group_wp.sl.v35 d L t h2 k fr = grp (lblB m d) (64 * t.val + k.val) :=
    grp_read (F := F) hr _ (off5_eq k) ((cond2_iff L t).mp h2)
  have hin : ∀ (a : Fin S1024.rank) (x : S16.Idx), ((![grp (lblB m d) (64 * t.val + k.val)] : Fin 1 → IVec S16 32) a x).toNat < S1024.size a := by
    intro a x
    obtain rfl : a = 0 := Subsingleton.elim _ _
    exact lt_trans (hl _) (show 1000 < 1024 by decide)
  rw [wp_assume_of _ _ _ _ (show k1_chk1 L t (group_wp.sl.v35 d L t h2 k fr) by rw [hv]; exact fun _ => hin)]
  sl_exec
  iapply (store_grp (F := F) d L (lblB m d) (64 * t.val + k.val) hv rfl) $$ Hbi; iintro Hbi
  sl_step
  isplitl [Hrw]; · iexact Hrw
  isplitl [Hon]; · iexact Hon
  iexact Hbi

/-! ## A turn -/

theorem sh_loc : (shV).view.loc (thr d L) = shLoc d (cV L) := rfl

/-- A tile's resources between meetings: `r` meetings are over. -/
def Tst (κ : ℕ) (O : CellTallies nD τ sig (HIx 17)) (W₀ : Waits sig (HIx 17)) (fr : Buf (Elt F) ((rwV).view.loc (thr d L))) (t : ℕ) : sProp 𝕄 :=
  iprop((inv κ (mInv m d (cV L)) : sProp 𝕄) ∗ levAts (K (F := F)).L (K (F := F)).lev
    ∗ ((rwV).view.loc (thr d L) ↦{fullShare} fr)
    ∗ ((onV).view.loc (thr d L) ↦{fullShare} (fun _ => Scalar.ofBits .f32 0x3F800000#32 : Vec F S128 .f32))
    ∗ (∃ f : Buf (Elt F) ((biV).view.loc (thr d L)), (biV).view.loc (thr d L) ↦{fullShare} f)
    ∗ pay m d (cV L) t (L 1)
    ∗ semVal (sc_ d L cc1_scoped10.sem) 0 ∗ semVal (sc_ d L cc1_scoped11.sem) 0
    ∗ kitAt (F := F) d L (t + 1)
    ∗ ∃ W', ⌜Rec W₀ W'⌝ ∗ owes (thr d L) (O + oxV d (cV L) (t + 1)) W')

theorem none_add {O : CellTallies nD τ sig (HIx 17)} (h : ∀ g, O g none = 0) (c : Fin τ.nSC) (r : ℕ) : ∀ g, (O + oxV d c r) g none = 0 := fun g => by
  show O g none + oxV d c r g none = 0
  rw [h g, oxV_none]

set_option maxHeartbeats 1000000 in
theorem turn_wp (hl : ∀ i, (lblB m d i).toNat < 1000) (arg1 v7 : BitVec 32) (t : Fin k1_t3_loop.trips) (a : Unit) (κ : ℕ)
    (O : CellTallies nD τ sig (HIx 17)) (hO : ∀ g ι, 0 < O g ι → 134 ≤ (K (F := F)).lev g ι) (hO' : ∀ g, O g none = 0) (W₀ : Waits sig (HIx 17))
    (fr : Buf (Elt F) ((rwV).view.loc (thr d L))) (hr : RowsAt (lblB m d) (L 1).val 8 fr) :
    Tst m d L κ O W₀ fr t.val
      ⊢ wp frame (wpE (defs₀ (F := F)) 𝒱₀ (thr d L) none) Set.univ
          (k1_t3_body L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18 arg1 v7 t a)
          fun _ => Tst m d L κ O W₀ fr (t.val + 1) := by
  have ht : t.val < 16 := t.isLt
  unfold k1_t3_body Tst
  iintro ⟨#Hinv, #Hlv, Hrw, Hon, ⟨%fb, Hbi⟩, Hpay, Hs0, Hs1, Hkit, %W', %hW', HO⟩
  ihave Hmw := ((K (F := F)).mayWaits_none (thr := thr d L) (none_add d hO' (cV L) (t.val + 1))) $$ Hlv
  by_cases h2 : k1_cond2 L t = 1#1
  · have he := (cond2_iff L t).mp h2
    rw [dif_pos h2]
    ihave Hsh := (Entails.of_eq (show (pay m d (cV L) t.val (L 1) : sProp 𝕄)
      = iprop((shV).view.loc (thr d L) ↦{fullShare} (Ht (lblB m d) t.val : Vec F S1024 .f32)) by unfold pay; rw [if_pos ht, if_pos he]; rfl)) $$ Hpay
    sl_exec
    ihave Hbi := (Entails.of_eq (congrArg (fun f : Buf (Elt F) ((biV).view.loc (thr d L)) => (iprop((biV).view.loc (thr d L) ↦{fullShare} f) : sProp 𝕄))
      (show View.write (Elt F) (biV).view fb (turn_wp.sl.dma0 m d t) Finset.univ = (Hg (lblB m d) (64 * t.val + 0) : Vec F S1024 .f32) from
        View.read_write_univ (v := (biV).view) (Val := Elt F) fb _))) $$ Hbi
    sl_for (fun (k : ℕ) (_ : Unit) => (iprop(((rwV).view.loc (thr d L) ↦{fullShare} fr)
        ∗ ((onV).view.loc (thr d L) ↦{fullShare} (fun _ => Scalar.ofBits .f32 0x3F800000#32 : Vec F S128 .f32))
        ∗ ((biV).view.loc (thr d L) ↦{fullShare} (Hg (lblB m d) (64 * t.val + k) : Vec F S1024 .f32))) : sProp 𝕄)) $$ [Hrw Hon Hbi]
    case region =>
      intro k a
      exact group_wp m d L hl arg1 v7 t h2 k a fr hr
    · beta_reduce
      isplitl [Hrw]; · iexact Hrw
      isplitl [Hon]; · iexact Hon
      iexact Hbi
    iintro %_ HI
    beta_reduce
    icases HI with ⟨Hrw, Hon, Hbi⟩
    sl_exec
    ihave Hsh := (Entails.of_eq (congrArg (fun f : Buf (Elt F) ((shV).view.loc (thr d L)) => (iprop((shV).view.loc (thr d L) ↦{fullShare} f) : sProp 𝕄))
      (show View.write (Elt F) (shV).view (Ht (lblB m d) t.val : Vec F S1024 .f32) (turn_wp.sl.dma0_1 m d t) Finset.univ = (Ht (lblB m d) (t.val + 1) : Vec F S1024 .f32) from
        View.read_write_univ (v := (shV).view) (Val := Elt F) _ _))) $$ Hsh
    iapply (meet m d L (r := t.val + 1) (by omega) O hO _) $$ [HO Hkit Hsh]
    · isplitr; · iexact Hinv
      isplitr; · iexact Hlv
      isplitl [HO]; · iexact HO
      isplitl [Hkit]; · iexact Hkit
      iapply (deposit_intro m d L (r := t.val + 1) (k := L 1) (by omega) (by rw [giver_succ _ ht]; exact Fin.ext he.symm))
      iexact Hsh
    iintro ⟨HO, Hkit, Hpay'⟩
    sl_step
    isplitr; · iexact Hinv
    isplitr; · iexact Hlv
    isplitl [Hrw]; · iexact Hrw
    isplitl [Hon]; · iexact Hon
    isplitl [Hbi]; · iexists _; iexact Hbi
    isplitl [Hpay']; · iexact Hpay'
    isplitl [Hs0]; · iexact Hs0
    isplitl [Hs1]; · iexact Hs1
    isplitl [Hkit]; · iexact Hkit
    iexists _; isplitr; rotate_left
    · iexact HO
    · ipureintro; exact ((hW'.idle _).idle _).met _ _
  · rw [dif_neg h2]
    iapply (meet m d L (r := t.val + 1) (by omega) O hO W') $$ [HO Hkit]
    · isplitr; · iexact Hinv
      isplitr; · iexact Hlv
      isplitl [HO]; · iexact HO
      isplitl [Hkit]; · iexact Hkit
      iapply (deposit_none m d L (r := t.val + 1) (k := L 1) (by rw [giver_succ _ ht]; exact fun e => h2 ((cond2_iff L t).mpr (congrArg Fin.val e).symm)))
      iempintro
    iintro ⟨HO, Hkit, Hpay'⟩
    sl_step
    isplitr; · iexact Hinv
    isplitr; · iexact Hlv
    isplitl [Hrw]; · iexact Hrw
    isplitl [Hon]; · iexact Hon
    isplitl [Hbi]; · iexists _; iexact Hbi
    isplitl [Hpay']; · iexact Hpay'
    isplitl [Hs0]; · iexact Hs0
    isplitl [Hs1]; · iexact Hs1
    isplitl [Hkit]; · iexact Hkit
    iexists _; isplitr; rotate_left
    · iexact HO
    · ipureintro; exact hW'.met _ _

end Cert.Proof.Sc
-- ==== Proof.Fill.lean ====
module

public import proofs.«01_k».proof.Proof.Rows

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

local notation "lbV" => (Memref.whole Cert.KernelIdeal.main_arg1_scv : Memref Cert.KernelIdeal.sig Kind.scVector Space.hbm Cert.KernelIdeal.S16384 EltTy.i32)
local notation "crV" => (Memref.whole Cert.KernelIdeal.main_v2_0_scv : Memref Cert.KernelIdeal.sig Kind.scVector Space.hbm Cert.KernelIdeal.S16384 EltTy.f32)
local notation "ddV" => (Memref.whole Cert.KernelIdeal.main_v2_1_scv : Memref Cert.KernelIdeal.sig Kind.scVector Space.hbm Cert.KernelIdeal.S16 EltTy.f32)
local notation "rwV" => (Memref.whole Cert.KernelIdeal.cc1_scratch0 : Memref Cert.KernelIdeal.sig Kind.scVector Space.vmem Cert.KernelIdeal.S8x128 EltTy.i32)
local notation "onV" => (Memref.whole Cert.KernelIdeal.cc1_scratch1 : Memref Cert.KernelIdeal.sig Kind.scVector Space.vmem Cert.KernelIdeal.S128 EltTy.f32)
local notation "biV" => (Memref.whole Cert.KernelIdeal.cc1_scratch2 : Memref Cert.KernelIdeal.sig Kind.scVector Space.vmem Cert.KernelIdeal.S1024 EltTy.f32)
local notation "shV" => (Memref.whole Cert.KernelIdeal.cc1_scratch3 : Memref Cert.KernelIdeal.sig Kind.scVector Space.shared Cert.KernelIdeal.S1024 EltTy.f32)
local notation "l2V" => (Memref.whole Cert.KernelIdeal.cc1_scratch4 : Memref Cert.KernelIdeal.sig Kind.scVector Space.vmem Cert.KernelIdeal.S512 EltTy.i32)
local notation "coV" => (Memref.whole Cert.KernelIdeal.cc1_scratch5 : Memref Cert.KernelIdeal.sig Kind.scVector Space.vmem Cert.KernelIdeal.S512 EltTy.f32)
local notation "prV" => (Memref.whole Cert.KernelIdeal.cc1_scratch6 : Memref Cert.KernelIdeal.sig Kind.scVector Space.vmem Cert.KernelIdeal.S16 EltTy.f32)

variable (d : Dev nD) (L : grid1.Coords)

set_option maxHeartbeats 4000000 in
theorem part1_wp (O : CellTallies nD τ sig (HIx 17)) (W₀ W : Waits sig (HIx 17)) (hW : Rec W₀ W) (q : PosShare TreeShare)
    (l : S16384.Idx → BitVec 32) (fr : Buf (Elt F) ((rwV).view.loc (thr d L)))
    (fl : Buf (Elt F) ((l2V).view.loc (thr d L))) (fb : Buf (Elt F) ((biV).view.loc (thr d L))) (fo : Buf (Elt F) ((onV).view.loc (thr d L))) :
    iprop((Transfers.MayWaits (thr d L) (default : HIx 17) O : sProp 𝕄)
        ∗ ((lbV).view.loc (thr d L) ↦{q} (l : Buf (Elt F) ((lbV).view.loc (thr d L))))
        ∗ ((rwV).view.loc (thr d L) ↦{fullShare} fr)
        ∗ ((l2V).view.loc (thr d L) ↦{fullShare} fl)
        ∗ ((biV).view.loc (thr d L) ↦{fullShare} fb)
        ∗ ((onV).view.loc (thr d L) ↦{fullShare} fo)
        ∗ semVal (sc_ d L cc1_scoped0.sem) 0 ∗ semVal (sc_ d L cc1_scoped1.sem) 0 ∗ owes (thr d L) O W)
      ⊢ wp frame (wpE (defs₀ (F := F)) 𝒱₀ (thr d L) none) Set.univ
          (k1_part1 L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18)
          fun r => iprop(⌜r = ret1 (F := F) L⌝
            ∗ ((lbV).view.loc (thr d L) ↦{q} (l : Buf (Elt F) ((lbV).view.loc (thr d L))))
            ∗ (∃ f : Buf (Elt F) ((rwV).view.loc (thr d L)), ⌜RowsAt l (L 1).val 1 f⌝ ∗ (rwV).view.loc (thr d L) ↦{fullShare} f)
            ∗ (∃ f : Buf (Elt F) ((l2V).view.loc (thr d L)), ⌜BlkAt l (L 1).val (L 0).val f⌝ ∗ (l2V).view.loc (thr d L) ↦{fullShare} f)
            ∗ ((biV).view.loc (thr d L) ↦{fullShare} (Hg l 0 : Vec F S1024 .f32))
            ∗ ((onV).view.loc (thr d L) ↦{fullShare} (fun _ => Scalar.ofBits .f32 0x3F800000#32 : Vec F S128 .f32))
            ∗ semVal (sc_ d L cc1_scoped0.sem) 0 ∗ semVal (sc_ d L cc1_scoped1.sem) 0
            ∗ ∃ W', ⌜Rec W₀ W'⌝ ∗ owes (thr d L) O W') := by
  rw [k1_part1_eq_skeleton]; unfold k1_part1_skel
  iintro ⟨#Hmw, Hlb, Hrw, Hl2, Hbi, Hon, Hs0, Hs1, HO⟩
  sl_exec
  sl_for (fun (t : ℕ) (_ : Unit) => (iprop((biV).view.loc (thr d L) ↦{fullShare} (fun n => if (n 0).val < 16 * t then Scalar.ofBits .f32 0x00000000#32 else fb n)) : sProp 𝕄)) $$ [Hbi]
  case region =>
    intro k _
    beta_reduce
    iintro Hbi
    sl_exec
    sl_step
    iapply (Entails.of_eq (congrArg (fun f : Buf (Elt F) ((biV).view.loc (thr d L)) => (iprop((biV).view.loc (thr d L) ↦{fullShare} f) : sProp 𝕄)) (zero_step k fb _)))
    iexact Hbi
  · beta_reduce
    iapply (Entails.of_eq (congrArg (fun f : Buf (Elt F) ((biV).view.loc (thr d L)) => (iprop((biV).view.loc (thr d L) ↦{fullShare} f) : sProp 𝕄))
      (funext fun n => (if_neg (Nat.not_lt_zero _)).symm)))
    iexact Hbi
  iintro %_ HI
  beta_reduce
  sl_for (fun (t : ℕ) (_ : Unit) => (iprop((onV).view.loc (thr d L) ↦{fullShare} (fun n => if (n 0).val < 16 * t then Scalar.ofBits .f32 0x3F800000#32 else fo n)) : sProp 𝕄)) $$ [Hon]
  case region =>
    intro k _
    beta_reduce
    iintro Hon
    sl_exec
    sl_step
    iapply (Entails.of_eq (congrArg (fun f : Buf (Elt F) ((onV).view.loc (thr d L)) => (iprop((onV).view.loc (thr d L) ↦{fullShare} f) : sProp 𝕄)) (one_step k fo _)))
    iexact Hon
  · beta_reduce
    iapply (Entails.of_eq (congrArg (fun f : Buf (Elt F) ((onV).view.loc (thr d L)) => (iprop((onV).view.loc (thr d L) ↦{fullShare} f) : sProp 𝕄))
      (funext fun n => (if_neg (Nat.not_lt_zero _)).symm)))
    iexact Hon
  iintro %_ HJ
  beta_reduce
  sl_exec
  sl_step
  isplitr; · ipureintro; rfl
  isplitl [Hlb]; · iexact Hlb
  isplitl [Hrw]
  · iexists _; isplitr; rotate_left
    · iexact Hrw
    · ipureintro
      refine row_step (F := F) l (j := 0) _ _ (fun x hx => absurd hx (Nat.not_lt_zero _)) fun y => ?_
      exact read_lbl (F := F) l _ (k1_off4_eq L 0) _ y
  isplitl [Hl2]
  · iexists _; isplitr; rotate_left
    · iexact Hl2
    · ipureintro
      intro x
      exact (congrFun (View.read_write_univ (v := (l2V).view) (Val := Elt F) fl _) x).trans (read_lbl (F := F) l _ (k1_off1_eq L) _ x)
  isplitl [HI]
  · iapply (Entails.of_eq (congrArg (fun f : Buf (Elt F) ((biV).view.loc (thr d L)) => (iprop((biV).view.loc (thr d L) ↦{fullShare} f) : sProp 𝕄))
      (funext fun n : S1024.Idx => if_pos (show (n 0).val < 16 * 64 from (n 0).isLt))))
    iexact HI
  isplitl [HJ]
  · iapply (Entails.of_eq (congrArg (fun f : Buf (Elt F) ((onV).view.loc (thr d L)) => (iprop((onV).view.loc (thr d L) ↦{fullShare} f) : sProp 𝕄))
      (funext fun n : S128.Idx => if_pos (show (n 0).val < 16 * 8 from (n 0).isLt))))
    iexact HJ
  isplitl [Hs0]; · iexact Hs0
  isplitl [Hs1]; · iexact Hs1
  iexists _; isplitr; rotate_left
  · iexact HO
  · ipureintro; exact (hW.idle _).idle _

set_option maxHeartbeats 4000000 in
theorem part2_wp (O : CellTallies nD τ sig (HIx 17)) (W₀ W : Waits sig (HIx 17)) (hW : Rec W₀ W) (q : PosShare TreeShare) (v7 : BitVec 32)
    (l : S16384.Idx → BitVec 32) (fr : Buf (Elt F) ((rwV).view.loc (thr d L))) (hr : RowsAt l (L 1).val 1 fr) :
    iprop((Transfers.MayWaits (thr d L) (default : HIx 17) O : sProp 𝕄)
        ∗ ((lbV).view.loc (thr d L) ↦{q} (l : Buf (Elt F) ((lbV).view.loc (thr d L))))
        ∗ ((rwV).view.loc (thr d L) ↦{fullShare} fr)
        ∗ semVal (sc_ d L cc1_scoped2.sem) 0 ∗ semVal (sc_ d L cc1_scoped3.sem) 0 ∗ semVal (sc_ d L cc1_scoped4.sem) 0 ∗ owes (thr d L) O W)
      ⊢ wp frame (wpE (defs₀ (F := F)) 𝒱₀ (thr d L) none) Set.univ
          (k1_part2 L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18 v7)
          fun _ => iprop(((lbV).view.loc (thr d L) ↦{q} (l : Buf (Elt F) ((lbV).view.loc (thr d L))))
            ∗ (∃ f : Buf (Elt F) ((rwV).view.loc (thr d L)), ⌜RowsAt l (L 1).val 4 f⌝ ∗ (rwV).view.loc (thr d L) ↦{fullShare} f)
            ∗ semVal (sc_ d L cc1_scoped2.sem) 0 ∗ semVal (sc_ d L cc1_scoped3.sem) 0 ∗ semVal (sc_ d L cc1_scoped4.sem) 0 ∗ ∃ W', ⌜Rec W₀ W'⌝ ∗ owes (thr d L) O W') := by
  rw [k1_part2_eq_skeleton]; unfold k1_part2_skel
  iintro ⟨#Hmw, Hlb, Hrw, Hs0, Hs1, Hs2, HO⟩
  sl_exec
  sl_step
  isplitl [Hlb]; · iexact Hlb
  isplitl [Hrw]
  · iexists _; isplitr; rotate_left
    · iexact Hrw
    · ipureintro
      refine row_step (F := F) l (j := 3) _ _ (row_step (F := F) l (j := 2) _ _ (row_step (F := F) l (j := 1) _ _ hr fun y => ?_) fun y => ?_) fun y => ?_
      · exact read_lbl (F := F) l _ (k1_off4_eq L 1) _ y
      · exact read_lbl (F := F) l _ (k1_off4_eq L 2) _ y
      · exact read_lbl (F := F) l _ (k1_off4_eq L 3) _ y
  isplitl [Hs0]; · iexact Hs0
  isplitl [Hs1]; · iexact Hs1
  isplitl [Hs2]; · iexact Hs2
  iexists _; isplitr; rotate_left
  · iexact HO
  · ipureintro; exact ((hW.idle _).idle _).idle _

set_option maxHeartbeats 4000000 in
theorem part3_wp (O : CellTallies nD τ sig (HIx 17)) (W₀ W : Waits sig (HIx 17)) (hW : Rec W₀ W) (q : PosShare TreeShare) (v7 : BitVec 32)
    (l : S16384.Idx → BitVec 32) (fr : Buf (Elt F) ((rwV).view.loc (thr d L))) (hr : RowsAt l (L 1).val 4 fr) :
    iprop((Transfers.MayWaits (thr d L) (default : HIx 17) O : sProp 𝕄)
        ∗ ((lbV).view.loc (thr d L) ↦{q} (l : Buf (Elt F) ((lbV).view.loc (thr d L))))
        ∗ ((rwV).view.loc (thr d L) ↦{fullShare} fr)
        ∗ semVal (sc_ d L cc1_scoped5.sem) 0 ∗ semVal (sc_ d L cc1_scoped6.sem) 0 ∗ semVal (sc_ d L cc1_scoped7.sem) 0 ∗ owes (thr d L) O W)
      ⊢ wp frame (wpE (defs₀ (F := F)) 𝒱₀ (thr d L) none) Set.univ
          (k1_part3 L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18 v7)
          fun _ => iprop(((lbV).view.loc (thr d L) ↦{q} (l : Buf (Elt F) ((lbV).view.loc (thr d L))))
            ∗ (∃ f : Buf (Elt F) ((rwV).view.loc (thr d L)), ⌜RowsAt l (L 1).val 7 f⌝ ∗ (rwV).view.loc (thr d L) ↦{fullShare} f)
            ∗ semVal (sc_ d L cc1_scoped5.sem) 0 ∗ semVal (sc_ d L cc1_scoped6.sem) 0 ∗ semVal (sc_ d L cc1_scoped7.sem) 0 ∗ ∃ W', ⌜Rec W₀ W'⌝ ∗ owes (thr d L) O W') := by
  rw [k1_part3_eq_skeleton]; unfold k1_part3_skel
  iintro ⟨#Hmw, Hlb, Hrw, Hs0, Hs1, Hs2, HO⟩
  sl_exec
  sl_step
  isplitl [Hlb]; · iexact Hlb
  isplitl [Hrw]
  · iexists _; isplitr; rotate_left
    · iexact Hrw
    · ipureintro
      refine row_step (F := F) l (j := 6) _ _ (row_step (F := F) l (j := 5) _ _ (row_step (F := F) l (j := 4) _ _ hr fun y => ?_) fun y => ?_) fun y => ?_
      · exact read_lbl (F := F) l _ (k1_off4_eq L 4) _ y
      · exact read_lbl (F := F) l _ (k1_off4_eq L 5) _ y
      · exact read_lbl (F := F) l _ (k1_off4_eq L 6) _ y
  isplitl [Hs0]; · iexact Hs0
  isplitl [Hs1]; · iexact Hs1
  isplitl [Hs2]; · iexact Hs2
  iexists _; isplitr; rotate_left
  · iexact HO
  · ipureintro; exact ((hW.idle _).idle _).idle _

end Cert.Proof.Sc
-- ==== Proof.Tail.lean ====
module

public import proofs.«01_k».proof.Proof.Turn
public import proofs.«01_k».proof.Proof.Fill

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

local notation "lbV" => (Memref.whole Cert.KernelIdeal.main_arg1_scv : Memref Cert.KernelIdeal.sig Kind.scVector Space.hbm Cert.KernelIdeal.S16384 EltTy.i32)
local notation "crV" => (Memref.whole Cert.KernelIdeal.main_v2_0_scv : Memref Cert.KernelIdeal.sig Kind.scVector Space.hbm Cert.KernelIdeal.S16384 EltTy.f32)
local notation "ddV" => (Memref.whole Cert.KernelIdeal.main_v2_1_scv : Memref Cert.KernelIdeal.sig Kind.scVector Space.hbm Cert.KernelIdeal.S16 EltTy.f32)
local notation "rwV" => (Memref.whole Cert.KernelIdeal.cc1_scratch0 : Memref Cert.KernelIdeal.sig Kind.scVector Space.vmem Cert.KernelIdeal.S8x128 EltTy.i32)
local notation "onV" => (Memref.whole Cert.KernelIdeal.cc1_scratch1 : Memref Cert.KernelIdeal.sig Kind.scVector Space.vmem Cert.KernelIdeal.S128 EltTy.f32)
local notation "biV" => (Memref.whole Cert.KernelIdeal.cc1_scratch2 : Memref Cert.KernelIdeal.sig Kind.scVector Space.vmem Cert.KernelIdeal.S1024 EltTy.f32)
local notation "shV" => (Memref.whole Cert.KernelIdeal.cc1_scratch3 : Memref Cert.KernelIdeal.sig Kind.scVector Space.shared Cert.KernelIdeal.S1024 EltTy.f32)
local notation "l2V" => (Memref.whole Cert.KernelIdeal.cc1_scratch4 : Memref Cert.KernelIdeal.sig Kind.scVector Space.vmem Cert.KernelIdeal.S512 EltTy.i32)
local notation "coV" => (Memref.whole Cert.KernelIdeal.cc1_scratch5 : Memref Cert.KernelIdeal.sig Kind.scVector Space.vmem Cert.KernelIdeal.S512 EltTy.f32)
local notation "prV" => (Memref.whole Cert.KernelIdeal.cc1_scratch6 : Memref Cert.KernelIdeal.sig Kind.scVector Space.vmem Cert.KernelIdeal.S16 EltTy.f32)

variable (m : (ℓ : Loc nD τ sig) → Buf (Elt F) ℓ) (d : Dev nD) (L : grid1.Coords)

theorem cond3_iff : ∀ i : grid1.Coords, k1_cond3 i = 1#1 ↔ (i 0).val = 0 ∧ (i 1).val = 0 := by decide +kernel
theorem first_iff : ∀ s : Fin (grid1.bound 1), Scalar.cmpi .ne (Scalar.extui (Scalar.cmpi .eq (BitVec.ofNat 32 s.val) 0#32) : BitVec 32) 0#32 = 1#1 ↔ s.val = 0 := by decide +kernel

/-- The block of the counts the tile writes. -/
abbrev crK (L : grid1.Coords) : Memref sig .scVector .hbm S512 .f32 := (crV).slice (Rect.unit (s := S16384) (k1_off1 L) S512.size (k1_off1_inb L)) (fun _ => rfl)

/-- Words of the tile's block name bins. -/
theorem blk_in (hl : ∀ i, (lblB m d i).toNat < 1000) {f : S512.Idx → BitVec 32} (hf : BlkAt (lblB m d) (L 1).val (L 0).val f) {off : Fin 1 → ℕ}
    (inb : ∀ a, off a + S128.size a ≤ S512.size a) (hp) (x : S128.Idx) :
    (((l2V).slice (Rect.unit (s := S512) off S128.size inb) hp).view.read (Elt F) f x : BitVec 32).toNat < 1024 := by
  show (f ((Rect.unit (s := S512) off S128.size inb).emb x)).toNat < 1024
  rw [hf]
  exact lt_trans (hl _) (by decide)

/-- The state before the first turn. -/
theorem Tst_intro (κ : ℕ) (O : CellTallies nD τ sig (HIx 17)) {W₀ W : Waits sig (HIx 17)} (hW : Rec W₀ W) (fr : Buf (Elt F) ((rwV).view.loc (thr d L)))
    (fb : Buf (Elt F) ((biV).view.loc (thr d L))) :
    iprop((inv κ (mInv m d (cV L)) : sProp 𝕄) ∗ levAts (K (F := F)).L (K (F := F)).lev
      ∗ ((rwV).view.loc (thr d L) ↦{fullShare} fr)
      ∗ ((onV).view.loc (thr d L) ↦{fullShare} (fun _ => Scalar.ofBits .f32 0x3F800000#32 : Vec F S128 .f32))
      ∗ ((biV).view.loc (thr d L) ↦{fullShare} fb)
      ∗ pay m d (cV L) 0 (L 1)
      ∗ semVal (sc_ d L cc1_scoped10.sem) 0 ∗ semVal (sc_ d L cc1_scoped11.sem) 0
      ∗ kitAt (F := F) d L (0 + 1)
      ∗ owes (thr d L) (O + oxV d (cV L) (0 + 1)) W) ⊢ Tst m d L κ O W₀ fr 0 := by
  unfold Tst
  iintro ⟨#Hinv, #Hlv, Hrw, Hon, Hbi, Hpay, Hs10, Hs11, Hkit, HO⟩
  isplitr; · iexact Hinv
  isplitr; · iexact Hlv
  isplitl [Hrw]; · iexact Hrw
  isplitl [Hon]; · iexact Hon
  isplitl [Hbi]; · iexists _; iexact Hbi
  isplitl [Hpay]; · iexact Hpay
  isplitl [Hs10]; · iexact Hs10
  isplitl [Hs11]; · iexact Hs11
  isplitl [Hkit]; · iexact Hkit
  iexists _; isplitr; rotate_left
  · iexact HO
  · ipureintro; exact hW

/-- Position `n` of 128. -/
def at128 (n : ℕ) (h : n < 128) : S128.Idx := fun a => ⟨n, by obtain rfl : a = 0 := Subsingleton.elim _ _; exact h⟩

/-- What four groups of 128 counts leave of the tile's 512. -/
theorem co_val (G : ℕ → F .f32) (fc : Buf (Elt F) ((coV).view.loc (thr d L))) {w1 w2 w3 w4 : S128.Idx → F .f32}
    (h1 : ∀ y, w1 y = G (0 + (y 0).val)) (h2 : ∀ y, w2 y = G (128 + (y 0).val)) (h3 : ∀ y, w3 y = G (256 + (y 0).val)) (h4 : ∀ y, w4 y = G (384 + (y 0).val))
    (x : S512.Idx) :
    ((coV).view.read (Elt F) ((coV).view.writes (Elt F) fc
      [⟨Rect.unit ![384] S128.size inb_S512_S128_384, w4⟩, ⟨Rect.unit ![256] S128.size inb_S512_S128_256, w3⟩,
        ⟨Rect.unit ![128] S128.size inb_S512_S128_128, w2⟩, ⟨Rect.unit ![0] S128.size inb_S512_S128_0, w1⟩]) x : F .f32) = G (x 0).val := by
  have hx : (x 0).val < 512 := (x 0).isLt
  by_cases c4 : 384 ≤ (x 0).val
  · refine (View.read_writes_cons_unit_of_mem (coV).view fc inb_S512_S128_384 w4 _ x (at128 ((x 0).val - 384) (by omega)) rfl
      (fun a => match a with | ⟨0, _⟩ => by show (x 0).val = 384 + ((x 0).val - 384); omega)).trans ((h4 _).trans (congrArg G ?_))
    show 384 + ((x 0).val - 384) = _; omega
  refine (View.read_writes_cons_unit_of_not_mem (coV).view fc inb_S512_S128_384 w4 _ x rfl 0 (.inl (by show (x 0).val < 384; omega))).trans ?_
  by_cases c3 : 256 ≤ (x 0).val
  · refine (View.read_writes_cons_unit_of_mem (coV).view fc inb_S512_S128_256 w3 _ x (at128 ((x 0).val - 256) (by omega)) rfl
      (fun a => match a with | ⟨0, _⟩ => by show (x 0).val = 256 + ((x 0).val - 256); omega)).trans ((h3 _).trans (congrArg G ?_))
    show 256 + ((x 0).val - 256) = _; omega
  refine (View.read_writes_cons_unit_of_not_mem (coV).view fc inb_S512_S128_256 w3 _ x rfl 0 (.inl (by show (x 0).val < 256; omega))).trans ?_
  by_cases c2 : 128 ≤ (x 0).val
  · refine (View.read_writes_cons_unit_of_mem (coV).view fc inb_S512_S128_128 w2 _ x (at128 ((x 0).val - 128) (by omega)) rfl
      (fun a => match a with | ⟨0, _⟩ => by show (x 0).val = 128 + ((x 0).val - 128); omega)).trans ((h2 _).trans (congrArg G ?_))
    show 128 + ((x 0).val - 128) = _; omega
  refine (View.read_writes_cons_unit_of_not_mem (coV).view fc inb_S512_S128_128 w2 _ x rfl 0 (.inl (by show (x 0).val < 128; omega))).trans ?_
  refine (View.read_writes_cons_unit_of_mem (coV).view fc inb_S512_S128_0 w1 _ x (at128 (x 0).val (by omega)) rfl
      (fun a => match a with | ⟨0, _⟩ => by show (x 0).val = 0 + (x 0).val; omega)).trans ((h1 _).trans (congrArg G ?_))
  show 0 + (x 0).val = _; omega

/-- The count the tile's word `n` is to have. -/
def Gc (L : grid1.Coords) (n : ℕ) : F .f32 := (Ht (lblB m d) 16 : Vec F S1024 .f32) (bin (lblB m d (ix (1024 * (L 1).val + 512 * (L 0).val + n))))

/-- A gather of 128 counts. -/
theorem gat_val (hl : ∀ i, (lblB m d i).toNat < 1000) {f : S512.Idx → BitVec 32} (hf : BlkAt (lblB m d) (L 1).val (L 0).val f) {n : ℕ}
    (inb : ∀ a, (![n] : Fin 1 → ℕ) a + S128.size a ≤ S512.size a) (hp) (g : S1024.Idx) (y : S128.Idx)
    (hg : (g 0).val = (((l2V).slice (Rect.unit (s := S512) ![n] S128.size inb) hp).view.read (Elt F) f y : BitVec 32).toNat) :
    (Ht (lblB m d) 16 : Vec F S1024 .f32) g = Gc m d L (n + (y 0).val) := by
  have hb := blk_in m d L hl hf inb hp y
  unfold Gc
  congr 1
  funext a
  obtain rfl : a = 0 := Subsingleton.elim _ _
  refine Fin.ext ?_
  show (g 0).val = (lblB m d (ix (1024 * (L 1).val + 512 * (L 0).val + (n + (y 0).val)))).toNat % 1024
  rw [hg, ← Nat.mod_eq_of_lt hb]
  show (f ((Rect.unit (s := S512) ![n] S128.size inb).emb y)).toNat % 1024 = _
  rw [hf]
  congr 4
  show _ + (n + 1 * (y 0).val) = _
  omega

/-- A word of the tile's block, in the labels' order. -/
theorem crK_emb (x : S512.Idx) : (Rect.unit (s := S16384) (k1_off1 L) S512.size (k1_off1_inb L)).emb x = ix (1024 * (L 1).val + 512 * (L 0).val + (x 0).val) := by
  have h0 : k1_off1 L 0 = 1024 * (L 1).val + 512 * (L 0).val := by rw [k1_off1_eq]; rfl
  have hx : (x 0).val < 512 := (x 0).isLt
  have hs : (L 1).val < 16 := (L 1).isLt
  have hc : (L 0).val < 2 := (L 0).isLt
  funext a
  obtain rfl : a = 0 := Subsingleton.elim _ _
  refine Fin.ext ?_
  show k1_off1 L 0 + 1 * (x 0).val = (1024 * (L 1).val + 512 * (L 0).val + (x 0).val) % 16384
  rw [h0]
  omega

theorem cr_key (f0 : Buf (Elt F) ((crV).view.loc (thr d L))) (w : S512.Idx → F .f32) (hw : ∀ x, w x = Gc m d L (x 0).val) (x : S512.Idx) :
    ((crK L).view.read (Elt F) ((crK L).view.writes (Elt F) f0 [⟨Rect.whole S512, w⟩]) x : F .f32) = (cntF (lblB m d) : Vec F S16384 .f32) ((Rect.unit (s := S16384) (k1_off1 L) S512.size (k1_off1_inb L)).emb x) := by
  have e := View.read_writes_cons_emb (Val := Elt F) (crK L).view f0 (Rect.whole S512) w [] x
  rw [Rect.emb_whole_apply] at e
  rw [e, hw, crK_emb]
  rfl

theorem row128 : ∀ k : Fin S128.numel, ((S128.rowMajor.symm k) 0).val = k.val := by decide +kernel

/-- A gather's payload. -/
theorem gat_pay (hl : ∀ i, (lblB m d i).toNat < 1000) {f : S512.Idx → BitVec 32} (hf : BlkAt (lblB m d) (L 1).val (L 0).val f) (n : ℕ)
    (inb : ∀ a, (![n] : Fin 1 → ℕ) a + S128.size a ≤ S512.size a) (hp) (hp') (hn) (hr) (y : S128.Idx) :
    (SparseCore.gatherPayload gathers_S1024_S128
      (View.read (Elt F) ((shV).slice (Rect.unit (s := S1024) ![0] S1024.size inb_S1024_S1024_0) hp').view (Ht (lblB m d) 16 : Vec F S1024 .f32))
      (SparseCore.rows (si := S128) (View.read (Elt F) ((l2V).slice (Rect.unit (s := S512) ![n] S128.size inb) hp).view f) hn hr) y : F .f32) = Gc m d L (n + (y 0).val) := by
  unfold SparseCore.gatherPayload
  refine gat_val m d L hl hf inb hp _ y ?_
  show 0 + 1 * _ = _
  rw [Nat.zero_add, Nat.one_mul]
  have e := Shape.Gathers.idx_axis gathers_S1024_S128 (SparseCore.rows (F := F) (si := S128) (View.read (Elt F) ((l2V).slice (Rect.unit (s := S512) ![n] S128.size inb) hp).view f) hn hr) y
  refine (congrArg Fin.val e).trans ?_
  show (View.read (Elt F) ((l2V).slice (Rect.unit (s := S512) ![n] S128.size inb) hp).view f (S128.rowMajor.symm _) : BitVec 32).toNat = _
  congr 2
  funext a
  obtain rfl : a = 0 := Subsingleton.elim _ _
  exact Fin.ext (row128 _)

/-- The tile's block of the counts, written. -/
theorem cr_done (f0 : Buf (Elt F) ((crV).view.loc (thr d L))) (w : S512.Idx → F .f32) (hw : ∀ x, w x = Gc m d L (x 0).val) :
    ((crK L).view.loc (thr d L) ↦[(crK L).view.set]{fullShare} (crK L).view.writes (Elt F) f0 [⟨Rect.whole S512, w⟩] : sProp 𝕄)
      = ((crK L).view.loc (thr d L) ↦[(crK L).view.set]{fullShare} (cntF (lblB m d) : Vec F S16384 .f32)) := by
  have key := cr_key m d L f0 w hw
  refine pointsTo_congr fun i hi => ?_
  obtain ⟨x, -, rfl⟩ := Finset.mem_map.mp hi
  exact key x

/-- The number of present bins, a group more. -/
theorem t5_wp (t : Fin k1_t5_loop.trips) (acc : FVec F S16 .f32) (h3 : k1_cond3 L = 1#1) (hacc : acc = pres (Ht (lblB m d) 16 : Vec F S1024 .f32) t.val) :
    ((biV).view.loc (thr d L) ↦{fullShare} (Ht (lblB m d) 16 : Vec F S1024 .f32) : sProp 𝕄)
      ⊢ wp frame (wpE (defs₀ (F := F)) 𝒱₀ (thr d L) none) Set.univ
          (k1_t5_body L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18 h3 t acc)
          fun acc' => iprop(⌜acc' = pres (Ht (lblB m d) 16 : Vec F S1024 .f32) (t.val + 1)⌝ ∗ (biV).view.loc (thr d L) ↦{fullShare} (Ht (lblB m d) 16 : Vec F S1024 .f32)) := by
  subst hacc
  unfold k1_t5_body
  iintro Hbi
  sl_exec
  sl_step
  isplitr; rotate_left
  · iexact Hbi
  · ipureintro
    show k1_pay1 _ _ = k1_pay1 _ _
    congr 1
    funext x
    unfold binGrp
    show (Ht (lblB m d) 16 : Vec F S1024 .f32) _ = (Ht (lblB m d) 16 : Vec F S1024 .f32) _
    congr 1
    have ht : t.val < 64 := t.isLt
    have hx : (x 0).val < 16 := (x 0).isLt
    have h0 : k1_off7 t 0 = 16 * t.val := by rw [k1_off7_eq]; rfl
    funext a
    match a with
    | ⟨0, _⟩ =>
    refine Fin.ext ?_
    show k1_off7 t 0 + 1 * (x 0).val = (16 * t.val + (x 0).val) % 1024
    rw [h0]
    omega

set_option maxHeartbeats 2000000 in
theorem body_wp (hl : ∀ i, (lblB m d i).toNat < 1000) (κ : ℕ)
    (O : CellTallies nD τ sig (HIx 17)) (hO : ∀ g ι, 0 < O g ι → 134 ≤ (K (F := F)).lev g ι) (hO' : ∀ g, O g none = 0) (W : Waits sig (HIx 17))
    (q : PosShare TreeShare) (fr : Buf (Elt F) ((rwV).view.loc (thr d L)))
    (f2 : Buf (Elt F) ((l2V).view.loc (thr d L))) (fb : Buf (Elt F) ((biV).view.loc (thr d L))) (fo : Buf (Elt F) ((onV).view.loc (thr d L)))
    (fc : Buf (Elt F) ((coV).view.loc (thr d L))) (fp : Buf (Elt F) ((prV).view.loc (thr d L)))
    (f0 : Buf (Elt F) ((crV).view.loc (thr d L))) (g0 : Buf (Elt F) ((ddV).view.loc (thr d L))) :
    iprop((inv κ (mInv m d (cV L)) : sProp 𝕄) ∗ levAts (K (F := F)).L (K (F := F)).lev
        ∗ ((lbV).view.loc (thr d L) ↦{q} (lblB m d : Buf (Elt F) ((lbV).view.loc (thr d L))))
        ∗ ((rwV).view.loc (thr d L) ↦{fullShare} fr)
        ∗ ((onV).view.loc (thr d L) ↦{fullShare} fo)
        ∗ ((biV).view.loc (thr d L) ↦{fullShare} fb)
        ∗ ((l2V).view.loc (thr d L) ↦{fullShare} f2)
        ∗ ((coV).view.loc (thr d L) ↦{fullShare} fc)
        ∗ ((prV).view.loc (thr d L) ↦{fullShare} fp)
        ∗ ((crK L).view.loc (thr d L) ↦[(crK L).view.set]{fullShare} f0)
        ∗ (if (L 0).val = 0 ∧ (L 1).val = 0 then iprop((ddV).view.loc (thr d L) ↦{fullShare} g0) else iprop(emp))
        ∗ (if (L 1).val = 0 then iprop(∃ f, (shV).view.loc (thr d L) ↦{fullShare} f) else iprop(emp))
        ∗ semVal (sc_ d L cc1_scoped0.sem) 0 ∗ semVal (sc_ d L cc1_scoped1.sem) 0 ∗ semVal (sc_ d L cc1_scoped2.sem) 0 ∗ semVal (sc_ d L cc1_scoped3.sem) 0 ∗ semVal (sc_ d L cc1_scoped4.sem) 0 ∗ semVal (sc_ d L cc1_scoped5.sem) 0 ∗ semVal (sc_ d L cc1_scoped6.sem) 0 ∗ semVal (sc_ d L cc1_scoped7.sem) 0 ∗ semVal (sc_ d L cc1_scoped8.sem) 0 ∗ semVal (sc_ d L cc1_scoped9.sem) 0 ∗ semVal (sc_ d L cc1_scoped10.sem) 0 ∗ semVal (sc_ d L cc1_scoped11.sem) 0 ∗ semVal (sc_ d L cc1_scoped12.sem) 0 ∗ semVal (sc_ d L cc1_scoped13.sem) 0 ∗ semVal (sc_ d L cc1_scoped14.sem) 0 ∗ semVal (sc_ d L cc1_scoped15.sem) 0 ∗ semVal (sc_ d L cc1_scoped16.sem) 0 ∗ semVal (sc_ d L cc1_scoped17.sem) 0 ∗ semVal (sc_ d L cc1_scoped18.sem) 0
        ∗ kitAt (F := F) d L 0 ∗ owes (thr d L) (O + oxV d (cV L) 0) W)
      ⊢ wp frame (wpE (defs₀ (F := F)) 𝒱₀ (thr d L) none) Set.univ
          (cc1__sc_body L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18)
          fun _ => iprop(((lbV).view.loc (thr d L) ↦{q} (lblB m d : Buf (Elt F) ((lbV).view.loc (thr d L))))
            ∗ (∃ f : Buf (Elt F) ((rwV).view.loc (thr d L)), (rwV).view.loc (thr d L) ↦{fullShare} f)
            ∗ (∃ f : Buf (Elt F) ((onV).view.loc (thr d L)), (onV).view.loc (thr d L) ↦{fullShare} f)
            ∗ (∃ f : Buf (Elt F) ((biV).view.loc (thr d L)), (biV).view.loc (thr d L) ↦{fullShare} f)
            ∗ (∃ f : Buf (Elt F) ((l2V).view.loc (thr d L)), (l2V).view.loc (thr d L) ↦{fullShare} f)
            ∗ (∃ f : Buf (Elt F) ((coV).view.loc (thr d L)), (coV).view.loc (thr d L) ↦{fullShare} f)
            ∗ (∃ f : Buf (Elt F) ((prV).view.loc (thr d L)), (prV).view.loc (thr d L) ↦{fullShare} f)
            ∗ ((crK L).view.loc (thr d L) ↦[(crK L).view.set]{fullShare} (cntF (lblB m d) : Vec F S16384 .f32))
            ∗ (if (L 0).val = 0 ∧ (L 1).val = 0 then iprop((ddV).view.loc (thr d L) ↦{fullShare} (presF (lblB m d) : Vec F S16 .f32)) else iprop(emp))
            ∗ ((shV).view.loc (thr d L) ↦{part 4 fullShare (L 1).val} (Ht (lblB m d) 16 : Vec F S1024 .f32))
            ∗ semVal (sc_ d L cc1_scoped0.sem) 0 ∗ semVal (sc_ d L cc1_scoped1.sem) 0 ∗ semVal (sc_ d L cc1_scoped2.sem) 0 ∗ semVal (sc_ d L cc1_scoped3.sem) 0 ∗ semVal (sc_ d L cc1_scoped4.sem) 0 ∗ semVal (sc_ d L cc1_scoped5.sem) 0 ∗ semVal (sc_ d L cc1_scoped6.sem) 0 ∗ semVal (sc_ d L cc1_scoped7.sem) 0 ∗ semVal (sc_ d L cc1_scoped8.sem) 0 ∗ semVal (sc_ d L cc1_scoped9.sem) 0 ∗ semVal (sc_ d L cc1_scoped10.sem) 0 ∗ semVal (sc_ d L cc1_scoped11.sem) 0 ∗ semVal (sc_ d L cc1_scoped12.sem) 0 ∗ semVal (sc_ d L cc1_scoped13.sem) 0 ∗ semVal (sc_ d L cc1_scoped14.sem) 0 ∗ semVal (sc_ d L cc1_scoped15.sem) 0 ∗ semVal (sc_ d L cc1_scoped16.sem) 0 ∗ semVal (sc_ d L cc1_scoped17.sem) 0 ∗ semVal (sc_ d L cc1_scoped18.sem) 0
            ∗ kitAt (F := F) d L 17 ∗ ∃ W', ⌜Rec W W'⌝ ∗ owes (thr d L) O W') := by
  rw [cc1__sc_body_eq_skeleton]; unfold cc1__sc_body_skel
  rw [k1_part4_eq_skeleton]; unfold k1_part4_skel
  iintro ⟨#Hinv, #Hlv, Hlb, Hrw, Hon, Hbi, Hl2, Hco, Hpr, Hcr, Hdd, Hsh, Hs0, Hs1, Hs2, Hs3, Hs4, Hs5, Hs6, Hs7, Hs8, Hs9, Hs10, Hs11, Hs12, Hs13, Hs14, Hs15, Hs16, Hs17, Hs18, Hkit, HO⟩
  ihave #Hmw := ((K (F := F)).mayWaits_none (thr := thr d L) (none_add d hO' (cV L) 0)) $$ Hlv
  rw [wp_bind]
  ihave Hp := (part1_wp d L (O + oxV d (cV L) 0) W W (Rec.refl W) q (lblB m d) fr f2 fb fo) $$ [Hlb Hrw Hl2 Hbi Hon Hs0 Hs1 HO]
  · skip
    isplitr; · iexact Hmw
    isplitl [Hlb]; · iexact Hlb
    isplitl [Hrw]; · iexact Hrw
    isplitl [Hl2]; · iexact Hl2
    isplitl [Hbi]; · iexact Hbi
    isplitl [Hon]; · iexact Hon
    isplitl [Hs0]; · iexact Hs0
    isplitl [Hs1]; · iexact Hs1
    iexact HO
  iapply (wp_wand) $$ Hp
  iintro %r ⟨%hret, Hlb, ⟨%fr1, %hr1, Hrw⟩, ⟨%fl2, %h2, Hl2⟩, Hbi, Hon, Hs0, Hs1, %W1, %hW1, HO⟩
  subst hret
  unfold ret1
  beta_reduce
  rw [wp_bind]
  ihave Hp := (part2_wp d L (O + oxV d (cV L) 0) W W1 hW1 q _ (lblB m d) fr1 hr1) $$ [Hlb Hrw Hs2 Hs3 Hs4 HO]
  · skip
    isplitr; · iexact Hmw
    isplitl [Hlb]; · iexact Hlb
    isplitl [Hrw]; · iexact Hrw
    isplitl [Hs2]; · iexact Hs2
    isplitl [Hs3]; · iexact Hs3
    isplitl [Hs4]; · iexact Hs4
    iexact HO
  iapply (wp_wand) $$ Hp
  iintro %_ ⟨Hlb, ⟨%fr4, %hr4, Hrw⟩, Hs2, Hs3, Hs4, %W2, %hW2, HO⟩
  beta_reduce
  rw [wp_bind]
  ihave Hp := (part3_wp d L (O + oxV d (cV L) 0) W W2 hW2 q _ (lblB m d) fr4 hr4) $$ [Hlb Hrw Hs5 Hs6 Hs7 HO]
  · skip
    isplitr; · iexact Hmw
    isplitl [Hlb]; · iexact Hlb
    isplitl [Hrw]; · iexact Hrw
    isplitl [Hs5]; · iexact Hs5
    isplitl [Hs6]; · iexact Hs6
    isplitl [Hs7]; · iexact Hs7
    iexact HO
  iapply (wp_wand) $$ Hp
  iintro %_ ⟨Hlb, ⟨%fr7, %hr7, Hrw⟩, Hs5, Hs6, Hs7, %W3, %hW3, HO⟩
  beta_reduce
  have hin : ∀ (off : Fin 1 → ℕ) (inb : ∀ a, off a + S128.size a ≤ S512.size a) hp (x : S128.Idx),
      (((l2V).slice (Rect.unit (s := S512) off S128.size inb) hp).view.read (Elt F) fl2 x : BitVec 32).toNat < 1024 := fun off inb hp x => blk_in m d L hl h2 inb hp x
  have hj0 : (L 1).val = 0 ↔ L 1 = giver 0 := ⟨fun h => Fin.ext h, fun h => congrArg Fin.val h⟩
  rw [wp_bind]
  by_cases h0 : (L 1).val = 0
  ihave Hsh := (Entails.of_eq (if_pos h0)) $$ Hsh
  icases Hsh with ⟨%fs, Hsh⟩
  have hc := (first_iff (L 1)).mpr h0
  sl_exec
  ihave Hsh := (Entails.of_eq (congrArg (fun f : Buf (Elt F) ((shV).view.loc (thr d L)) => (iprop((shV).view.loc (thr d L) ↦{fullShare} f) : sProp 𝕄))
    (show View.write (Elt F) (shV).view fs (body_wp.sl.dma0_1 m d) Finset.univ = (Ht (lblB m d) 0 : Vec F S1024 .f32) from
      View.read_write_univ (v := (shV).view) (Val := Elt F) _ _))) $$ Hsh
  generalize hfr8 : View.write (Elt F) (((rwV).slice (Rect.unit (s := S8x128) ![7, 0] S1x128.size inb_S8x128_S1x128_7_0) (fun _ => rfl)).squeeze S128 squeezes_S1x128_S128).view fr7 _ Finset.univ = fr8
  have hr8 : RowsAt (lblB m d) (L 1).val 8 fr8 := by
    rw [← hfr8]
    exact row_step (F := F) (lblB m d) (j := 7) _ _ hr7 fun y => read_lbl (F := F) (lblB m d) _ (k1_off4_eq L 7) _ y
  beta_reduce
  iapply (meet m d L (r := 0) (by decide) O hO _) $$ [HO Hkit Hsh]
  · isplitr; · iexact Hinv
    isplitr; · iexact Hlv
    isplitl [HO]; · iexact HO
    isplitl [Hkit]; · iexact Hkit
    iapply (deposit_intro m d L (r := 0) (k := L 1) (by decide) (hj0.mp h0).symm)
    iexact Hsh
  iintro ⟨HO, Hkit, Hpay⟩
  ihave HT := (Tst_intro m d L κ O (((hW3.idle _).idle _).met _ _) fr8 _) $$ [Hrw Hon Hbi Hpay Hs10 Hs11 Hkit HO]
  · isplitr; · iexact Hinv
    isplitr; · iexact Hlv
    isplitl [Hrw]; · iexact Hrw
    isplitl [Hon]; · iexact Hon
    isplitl [Hbi]; · iexact Hbi
    isplitl [Hpay]; · iexact Hpay
    isplitl [Hs10]; · iexact Hs10
    isplitl [Hs11]; · iexact Hs11
    isplitl [Hkit]; · iexact Hkit
    iexact HO
  rotate_left
  ihave Hsh := (Entails.of_eq (if_neg h0)) $$ Hsh
  iclear Hsh
  have hc := mt (first_iff (L 1)).mp h0
  sl_exec
  generalize hfr8 : View.write (Elt F) (((rwV).slice (Rect.unit (s := S8x128) ![7, 0] S1x128.size inb_S8x128_S1x128_7_0) (fun _ => rfl)).squeeze S128 squeezes_S1x128_S128).view fr7 _ Finset.univ = fr8
  have hr8 : RowsAt (lblB m d) (L 1).val 8 fr8 := by
    rw [← hfr8]
    exact row_step (F := F) (lblB m d) (j := 7) _ _ hr7 fun y => read_lbl (F := F) (lblB m d) _ (k1_off4_eq L 7) _ y
  beta_reduce
  iapply (meet m d L (r := 0) (by decide) O hO _) $$ [HO Hkit]
  · isplitr; · iexact Hinv
    isplitr; · iexact Hlv
    isplitl [HO]; · iexact HO
    isplitl [Hkit]; · iexact Hkit
    iapply (deposit_none m d L (r := 0) (k := L 1) (fun e => h0 (hj0.mpr e.symm)))
    iempintro
  iintro ⟨HO, Hkit, Hpay⟩
  ihave HT := (Tst_intro m d L κ O ((hW3.idle _).met _ _) fr8 _) $$ [Hrw Hon Hbi Hpay Hs10 Hs11 Hkit HO]
  · isplitr; · iexact Hinv
    isplitr; · iexact Hlv
    isplitl [Hrw]; · iexact Hrw
    isplitl [Hon]; · iexact Hon
    isplitl [Hbi]; · iexact Hbi
    isplitl [Hpay]; · iexact Hpay
    isplitl [Hs10]; · iexact Hs10
    isplitl [Hs11]; · iexact Hs11
    isplitl [Hkit]; · iexact Hkit
    iexact HO
  all_goals
    iclear Hmw
    sl_for (fun (t : ℕ) (_ : Unit) => (Tst m d L κ O W fr8 t : sProp 𝕄)) $$ [HT]
    case region =>
      intro k a
      exact turn_wp m d L hl _ _ k a κ O hO hO' W fr8 hr8
    · iexact HT
    iintro %_ HI
    beta_reduce
    unfold Tst
    icases HI with ⟨-, -, Hrw, Hon, ⟨%fb2, Hbi⟩, Hpay, Hs10, Hs11, Hkit, %W4, %hW4, HO⟩
    ihave HO := (Entails.of_eq (congrArg (fun o => (owes (thr d L) o W4 : sProp 𝕄)) (show O + oxV d (cV L) (k1_t3_loop.trips + 1) = O by
      rw [show k1_t3_loop.trips + 1 = 17 by decide, oxV_end, add_zero]))) $$ HO
    ihave #Hmw := ((K (F := F)).mayWaits_none (thr := thr d L) hO') $$ Hlv
    ihave Hsh := (Entails.of_eq (show (pay m d (cV L) k1_t3_loop.trips (L 1) : sProp 𝕄)
      = iprop((shV).view.loc (thr d L) ↦{part 4 fullShare (L 1).val} (Ht (lblB m d) 16 : Vec F S1024 .f32)) by rw [show k1_t3_loop.trips = 16 by decide]; unfold pay; rw [if_neg (by decide)]; rfl)) $$ Hpay
    sl_exec
    generalize hb3 : View.write (Elt F) (biV).view fb2 _ Finset.univ = fb3
    have hb3' : fb3 = (Ht (lblB m d) 16 : Vec F S1024 .f32) := by rw [← hb3]; exact View.read_write_univ (v := (biV).view) (Val := Elt F) fb2 _
    subst hb3'
    clear hb3
    generalize hc3 : (crK L).view.writes (Elt F) f0 _ = fc3
    have hc3' : ((crK L).view.loc (thr d L) ↦[(crK L).view.set]{fullShare} fc3 : sProp 𝕄) = ((crK L).view.loc (thr d L) ↦[(crK L).view.set]{fullShare} (cntF (lblB m d) : Vec F S16384 .f32)) := by
      rw [← hc3]
      exact cr_done m d L f0 _ (fun x => co_val d L (Gc m d L) fc (fun y => gat_pay m d L hl h2 0 _ _ _ _ _ y) (fun y => gat_pay m d L hl h2 128 _ _ _ _ _ y)
        (fun y => gat_pay m d L hl h2 256 _ _ _ _ _ y) (fun y => gat_pay m d L hl h2 384 _ _ _ _ _ y) x)
    ihave Hcr := (Entails.of_eq hc3') $$ Hcr
    by_cases h3 : k1_cond3 L = 1#1
    · have hz := (cond3_iff L).mp h3
      ihave Hdd := (Entails.of_eq (if_pos hz)) $$ Hdd
      rw [dif_pos h3]
      sl_for (fun (t : ℕ) (acc : FVec F S16 .f32) => (iprop(⌜acc = pres (Ht (lblB m d) 16 : Vec F S1024 .f32) t⌝
        ∗ (biV).view.loc (thr d L) ↦{fullShare} (Ht (lblB m d) 16 : Vec F S1024 .f32)) : sProp 𝕄)) $$ [Hbi]
      case region =>
        intro k a
        beta_reduce
        iintro ⟨%ha, Hbi⟩
        iapply (t5_wp m d L k a h3 ha) $$ Hbi
      · isplitr; rotate_left
        · iexact Hbi
        · ipureintro; rfl
      iintro %acc HI
      beta_reduce
      icases HI with ⟨%hacc, Hbi⟩
      sl_exec
      generalize hd3 : View.write (Elt F) (ddV).view g0 _ Finset.univ = fd3
      have hd3' : fd3 = (presF (lblB m d) : Vec F S16 .f32) := by
        rw [← hd3, hacc]
        refine (View.read_write_univ (v := (ddV).view) (Val := Elt F) g0 _).trans ?_
        exact funext fun y : S16.Idx => View.read_writes_cons_unit_of_mem (Val := Elt F) (prV).view fp inb_S16_S16_0 (k1_pay2 (pres (Ht (lblB m d) 16 : Vec F S1024 .f32) 64)) [] y y rfl
          fun a => match a with | ⟨0, _⟩ => (Nat.zero_add _).symm
      subst hd3'
      clear hd3
      sl_step
      isplitl [Hlb]; · iexact Hlb
      isplitl [Hrw]; · iexists _; iexact Hrw
      isplitl [Hon]; · iexists _; iexact Hon
      isplitl [Hbi]; · iexists _; iexact Hbi
      isplitl [Hl2]; · iexists _; iexact Hl2
      isplitl [Hco]; · iexists _; iexact Hco
      isplitl [Hpr]; · iexists _; iexact Hpr
      isplitl [Hcr]; · iexact Hcr
      isplitl [Hdd]; · iapply (Entails.of_eq (if_pos hz).symm); iexact Hdd
      isplitl [Hsh]; · iexact Hsh
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hkit]; · iexact Hkit
      iexists _; isplitr; rotate_left
      · iexact HO
      · ipureintro; exact (((((((hW4.idle _).idle _).idle _).idle _).idle _).idle _).idle _)
    · have hz := mt (cond3_iff L).mpr h3
      rw [dif_neg h3]
      sl_step
      isplitl [Hlb]; · iexact Hlb
      isplitl [Hrw]; · iexists _; iexact Hrw
      isplitl [Hon]; · iexists _; iexact Hon
      isplitl [Hbi]; · iexists _; iexact Hbi
      isplitl [Hl2]; · iexists _; iexact Hl2
      isplitl [Hco]; · iexists _; iexact Hco
      isplitl [Hpr]; · iexists _; iexact Hpr
      isplitl [Hcr]; · iexact Hcr
      isplitr; · iapply (Entails.of_eq (if_neg hz).symm); iempintro
      isplitl [Hsh]; · iexact Hsh
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hkit]; · iexact Hkit
      iexists _; isplitr; rotate_left
      · iexact HO
      · ipureintro; exact ((((((hW4.idle _).idle _).idle _).idle _).idle _).idle _)

end Cert.Proof.Sc
-- ==== Proof.Tile.lean ====
/-
  A tile's task: its own buffers and semaphores taken out, its body run, what it brings back.
-/
module

public import proofs.«01_k».proof.Proof.Tail

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

local notation "lbV" => (Memref.whole Cert.KernelIdeal.main_arg1_scv : Memref Cert.KernelIdeal.sig Kind.scVector Space.hbm Cert.KernelIdeal.S16384 EltTy.i32)
local notation "crV" => (Memref.whole Cert.KernelIdeal.main_v2_0_scv : Memref Cert.KernelIdeal.sig Kind.scVector Space.hbm Cert.KernelIdeal.S16384 EltTy.f32)
local notation "ddV" => (Memref.whole Cert.KernelIdeal.main_v2_1_scv : Memref Cert.KernelIdeal.sig Kind.scVector Space.hbm Cert.KernelIdeal.S16 EltTy.f32)
local notation "rwV" => (Memref.whole Cert.KernelIdeal.cc1_scratch0 : Memref Cert.KernelIdeal.sig Kind.scVector Space.vmem Cert.KernelIdeal.S8x128 EltTy.i32)
local notation "onV" => (Memref.whole Cert.KernelIdeal.cc1_scratch1 : Memref Cert.KernelIdeal.sig Kind.scVector Space.vmem Cert.KernelIdeal.S128 EltTy.f32)
local notation "biV" => (Memref.whole Cert.KernelIdeal.cc1_scratch2 : Memref Cert.KernelIdeal.sig Kind.scVector Space.vmem Cert.KernelIdeal.S1024 EltTy.f32)
local notation "shV" => (Memref.whole Cert.KernelIdeal.cc1_scratch3 : Memref Cert.KernelIdeal.sig Kind.scVector Space.shared Cert.KernelIdeal.S1024 EltTy.f32)
local notation "l2V" => (Memref.whole Cert.KernelIdeal.cc1_scratch4 : Memref Cert.KernelIdeal.sig Kind.scVector Space.vmem Cert.KernelIdeal.S512 EltTy.i32)
local notation "coV" => (Memref.whole Cert.KernelIdeal.cc1_scratch5 : Memref Cert.KernelIdeal.sig Kind.scVector Space.vmem Cert.KernelIdeal.S512 EltTy.f32)
local notation "prV" => (Memref.whole Cert.KernelIdeal.cc1_scratch6 : Memref Cert.KernelIdeal.sig Kind.scVector Space.vmem Cert.KernelIdeal.S16 EltTy.f32)

variable (m : (ℓ : Loc nD τ sig) → Buf (Elt F) ℓ) (d : Dev nD) (L : grid1.Coords)

theorem ico_take {n k : ℕ} (h : k < n) (Φ : ℕ → sProp 𝕄) :
    bigSep (Finset.Ico k n) Φ = iprop(Φ k ∗ bigSep (Finset.Ico (k + 1) n) Φ) := by
  rw [show Finset.Ico k n = insert k (Finset.Ico (k + 1) n) by ext x; simp only [Finset.mem_Ico, Finset.mem_insert]; omega,
    Turns.insert' (by simp)]

theorem ico_self (n : ℕ) (Φ : ℕ → sProp 𝕄) : bigSep (Finset.Ico n n) Φ = iprop(emp) := by rw [Finset.Ico_self, Turns.empty']

/-- The `k`-th of the body's copy semaphores. -/
def scK (k : ℕ) : GSem nD τ sig := (thr d L, .dma (Fin.ofNat 29 (6 + k)))
omit [FloatOps F] in
theorem scK_inj : Set.InjOn (scK d L) (Finset.Ico 0 19 : Finset ℕ) := by
  intro a ha b hb e
  have h := congrArg Fin.val (SemLoc.dma.inj (Prod.mk.inj e).2)
  have ha' := (Finset.mem_Ico.mp (Finset.mem_coe.mp ha)).2
  have hb' := (Finset.mem_Ico.mp (Finset.mem_coe.mp hb)).2
  simp only [Fin.ofNat] at h
  omega

omit [FloatOps F] in
theorem scK_scoped : ∀ k : Fin 19, (SemLoc.dma (Fin.ofNat 29 (6 + k.val)) : SemLoc sig).isScoped .scVector = true := by decide

omit [FloatOps F] in
theorem scK_sub : (Finset.Ico 0 19).image (scK d L) ⊆ ownCells (thr d L) := by
  intro g hg
  obtain ⟨k, hk, rfl⟩ := Finset.mem_image.mp hg
  exact mem_ownCells.mpr ⟨rfl, scK_scoped ⟨k, (Finset.mem_Ico.mp hk).2⟩⟩

theorem own_sems : (ownSems0 (thr d L) : sProp 𝕄)
    = iprop((bigSep (Finset.Ico 0 19) fun k => semVal (scK d L k) 0)
        ∗ bigSep (ownCells (thr d L) \ (Finset.Ico 0 19).image (scK d L)) fun g => semVal g 0) := by
  unfold SparseCore.Cfg.ownSems0
  conv_lhs => rw [← Finset.union_sdiff_of_subset (scK_sub d L)]
  rw [Turns.union' Finset.disjoint_sdiff, SparseCore.bigSep_image_of_injOn (scK_inj d L)]

theorem sems_list : (bigSep (Finset.Ico 0 19) fun k => (semVal (scK d L k) 0 : sProp 𝕄))
    = iprop(semVal (sc_ d L cc1_scoped0.sem) 0 ∗ semVal (sc_ d L cc1_scoped1.sem) 0 ∗ semVal (sc_ d L cc1_scoped2.sem) 0 ∗ semVal (sc_ d L cc1_scoped3.sem) 0 ∗ semVal (sc_ d L cc1_scoped4.sem) 0 ∗ semVal (sc_ d L cc1_scoped5.sem) 0 ∗ semVal (sc_ d L cc1_scoped6.sem) 0 ∗ semVal (sc_ d L cc1_scoped7.sem) 0 ∗ semVal (sc_ d L cc1_scoped8.sem) 0 ∗ semVal (sc_ d L cc1_scoped9.sem) 0 ∗ semVal (sc_ d L cc1_scoped10.sem) 0 ∗ semVal (sc_ d L cc1_scoped11.sem) 0 ∗ semVal (sc_ d L cc1_scoped12.sem) 0 ∗ semVal (sc_ d L cc1_scoped13.sem) 0 ∗ semVal (sc_ d L cc1_scoped14.sem) 0 ∗ semVal (sc_ d L cc1_scoped15.sem) 0 ∗ semVal (sc_ d L cc1_scoped16.sem) 0 ∗ semVal (sc_ d L cc1_scoped17.sem) 0 ∗ semVal (sc_ d L cc1_scoped18.sem) 0 ∗ emp) := by
  rw [ico_take (show 0 < 19 by decide), ico_take (show 1 < 19 by decide), ico_take (show 2 < 19 by decide), ico_take (show 3 < 19 by decide), ico_take (show 4 < 19 by decide), ico_take (show 5 < 19 by decide), ico_take (show 6 < 19 by decide), ico_take (show 7 < 19 by decide), ico_take (show 8 < 19 by decide), ico_take (show 9 < 19 by decide), ico_take (show 10 < 19 by decide), ico_take (show 11 < 19 by decide), ico_take (show 12 < 19 by decide), ico_take (show 13 < 19 by decide), ico_take (show 14 < 19 by decide), ico_take (show 15 < 19 by decide), ico_take (show 16 < 19 by decide), ico_take (show 17 < 19 by decide), ico_take (show 18 < 19 by decide), ico_self]
  rfl

/-- The `k`-th of the tile's scratch buffers. -/
def vmK (k : ℕ) : DevRef τ sig := (thr d L).2.devRef (⟨.vmem, Fin.ofNat 6 k, rfl⟩ : Ref sig .scVector)

omit [FloatOps F] in
theorem vmK_inj : Set.InjOn (vmK d L) (Finset.Ico 0 6 : Finset ℕ) := by
  intro a ha b hb e
  have ha' := (Finset.mem_Ico.mp (Finset.mem_coe.mp ha)).2
  have hb' := (Finset.mem_Ico.mp (Finset.mem_coe.mp hb)).2
  have h : (Fin.ofNat 6 a).val = (Fin.ofNat 6 b).val := congrArg (fun r : DevRef τ sig => r.idx.val) e
  simp only [Fin.ofNat] at h
  omega

omit [FloatOps F] in
theorem vmK_sub : (Finset.Ico 0 6).image (vmK d L) ⊆ ownRefs (τ := τ) (thr d L).2 := by
  intro g hg
  obtain ⟨k, hk, rfl⟩ := Finset.mem_image.mp hg
  exact SparseCore.Cfg.mem_ownRefs_of_owner rfl

theorem own_bufs : (ownBufs (thr d L) : sProp 𝕄)
    = iprop((bigSep (Finset.Ico 0 6) fun k => iprop(∃ f, ((d, vmK d L k) : Loc nD τ sig) ↦{fullShare} f))
        ∗ bigSep (ownRefs (thr d L).2 \ (Finset.Ico 0 6).image (vmK d L)) fun b => iprop(∃ f, ((d, b) : Loc nD τ sig) ↦{fullShare} f)) := by
  unfold SparseCore.Cfg.ownBufs
  conv_lhs => rw [← Finset.union_sdiff_of_subset (vmK_sub d L)]
  rw [Turns.union' Finset.disjoint_sdiff, SparseCore.bigSep_image_of_injOn (vmK_inj d L)]

theorem bufs_list : (bigSep (Finset.Ico 0 6) fun k => (iprop(∃ f, ((d, vmK d L k) : Loc nD τ sig) ↦{fullShare} f) : sProp 𝕄))
    = iprop((∃ f : Buf (Elt F) ((rwV).view.loc (thr d L)), (rwV).view.loc (thr d L) ↦{fullShare} f)
      ∗ (∃ f : Buf (Elt F) ((onV).view.loc (thr d L)), (onV).view.loc (thr d L) ↦{fullShare} f)
      ∗ (∃ f : Buf (Elt F) ((biV).view.loc (thr d L)), (biV).view.loc (thr d L) ↦{fullShare} f)
      ∗ (∃ f : Buf (Elt F) ((l2V).view.loc (thr d L)), (l2V).view.loc (thr d L) ↦{fullShare} f)
      ∗ (∃ f : Buf (Elt F) ((coV).view.loc (thr d L)), (coV).view.loc (thr d L) ↦{fullShare} f)
      ∗ (∃ f : Buf (Elt F) ((prV).view.loc (thr d L)), (prV).view.loc (thr d L) ↦{fullShare} f) ∗ emp) := by
  rw [ico_take (show 0 < 6 by decide), ico_take (show 1 < 6 by decide), ico_take (show 2 < 6 by decide), ico_take (show 3 < 6 by decide), ico_take (show 4 < 6 by decide), ico_take (show 5 < 6 by decide), ico_self]
  rfl

omit [FloatOps F] in
theorem dIf (c : Fin 2) (i : Fin 16) (A : sProp 𝕄) :
    (if c = 0 ∧ i = 0 then A else iprop(emp)) = if c.val = 0 ∧ i.val = 0 then A else iprop(emp) :=
  if_congr (by rw [Fin.ext_iff, Fin.ext_iff]; rfl) rfl rfl
omit [FloatOps F] in
theorem sIf (i : Fin 16) (A : sProp 𝕄) : (if i = 0 then A else iprop(emp)) = if i.val = 0 then A else iprop(emp) :=
  if_congr (by rw [Fin.ext_iff]; rfl) rfl rfl

/-- The block of the counts a tile writes, as its copy names it. -/
theorem crK_set : ((crK L).view.set : Finset S16384.Idx) = (blk (blockOf (L 0) (L 1))).set := by
  show ((crV).view.slice (Rect.unit (s := S16384) (k1_off1 L) S512.size (k1_off1_inb L))).set = _
  rw [View.set_slice]
  refine (Finset.map_refl).trans ?_
  have h0 : k1_off1 L 0 = 1024 * (L 1).val + 512 * (L 0).val := by rw [k1_off1_eq]; rfl
  have hs : (L 1).val < 16 := (L 1).isLt
  have hc : (L 0).val < 2 := (L 0).isLt
  have hb : (blockOf (L 0) (L 1)).val = 2 * (L 1).val + (L 0).val := rfl
  ext i
  rw [Rect.mem_set_unit, Rect.mem_set_unit]
  refine forall_congr' fun a => ?_
  have ha : a = (0 : Fin 1) := Subsingleton.elim (α := Fin 1) a 0
  subst ha
  rw [h0]
  show (1024 * (L 1).val + 512 * (L 0).val ≤ (i 0).val ∧ (i 0).val < 1024 * (L 1).val + 512 * (L 0).val + 512)
    ↔ ((blockOf (L 0) (L 1)).val * 512 ≤ (i 0).val ∧ (i 0).val < (blockOf (L 0) (L 1)).val * 512 + 512)
  rw [hb]
  omega

set_option maxRecDepth 16384 in
theorem tile_body (hl : Labels m) (O : CellTallies nD τ sig (HIx 17)) (W : Waits sig (HIx 17)) (hO' : ∀ g, O g none = 0)
    (hO : ∀ g ι, 0 < O g ι → 134 ≤ (K (F := F)).lev g ι) :
    iprop((levAts (K (F := F)).L (K (F := F)).lev : sProp 𝕄) ∗ bkit m d (cV L) (jV L)
        ∗ (tilePts m d (L 0) (L 1) (m (crLoc d)) (m (dLoc d)) ∗ shAny d (cV L) (L 1))
        ∗ scopedBufs (thr d L) ∗ scopedSems0 (thr d L) ∗ owes (thr d L) (O + oxV d (cV L) 0) W)
      ⊢ wp frame (wpE (defs₀ (F := F)) 𝒱₀ (thr d L) none) Set.univ
          (cc1__sc_body L lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18)
          fun _ => iprop(((tilePts m d (L 0) (L 1) (crF m d) (dF m d) ∗ shEnd m d (cV L) (L 1)) ∗ semVal (bcell d (cV L) (jV L)) 0)
            ∗ scopedBufs (thr d L) ∗ scopedSems0 (thr d L)
            ∗ ∃ W', ⌜∀ p ∈ W', p ∈ W ∨ p.2 = none ∨ ∃ j : Fin 17, p.2 = some j⌝ ∗ owes (thr d L) O W') := by
  rw [(K (F := F)).scopedBufs_V facts d (cV L) (jV L), SparseCore.Cfg.scopedSems0_V (Val := Elt F) d (cV L) (jV L), own_sems, own_bufs, sems_list, bufs_list]
  unfold bkit tilePts shAny
  iintro ⟨#Hlv, ⟨⟨%κ, #Hinv⟩, Htok, Hcred, Hat⟩, ⟨⟨Hl, Hcr, Hd⟩, Hsh⟩, ⟨⟨⟨%fr, Hr⟩, ⟨%fo, Ho⟩, ⟨%fb, Hb⟩, ⟨%f2, H2⟩, ⟨%fc, Hc⟩, ⟨%fp, Hp⟩, -⟩, Hbufs⟩, ⟨⟨S0, S1, S2, S3, S4, S5, S6, S7, S8, S9, S10, S11, S12, S13, S14, S15, S16, S17, S18, -⟩, Hsems⟩, HO⟩
  ihave Hd := (Entails.of_eq (dIf (F := F) (L 0) (L 1) (dLoc d ↦{fullShare} m (dLoc d)))) $$ Hd
  ihave Hsh := (Entails.of_eq (sIf (F := F) (L 1) iprop(∃ f, shLoc d (cV L) ↦{fullShare} f))) $$ Hsh
  ihave Hkit : kitAt (F := F) d L 0 $$ [Htok Hcred Hat]
  · unfold kitAt
    rw [← Finset.range_eq_Ico]
    isplitl [Htok]; · iexact Htok
    isplitl [Hcred]; · iexact Hcred
    iexact Hat
  ihave Hcr := (Entails.of_eq (show ((crLoc d ↦[(blk (blockOf (L 0) (L 1))).set]{fullShare} m (crLoc d)) : sProp 𝕄)
    = ((crK L).view.loc (thr d L) ↦[(crK L).view.set]{fullShare} m (crLoc d)) by rw [← crK_set])) $$ Hcr
  ihave H := (body_wp m d L (hl d) κ O hO hO' W (part 5 fullShare (blockOf (L 0) (L 1)).val) fr f2 fb fo fc fp (m (crLoc d)) (m (dLoc d)))
    $$ [Hl Hr Ho Hb H2 Hc Hp Hcr Hd Hsh S0 S1 S2 S3 S4 S5 S6 S7 S8 S9 S10 S11 S12 S13 S14 S15 S16 S17 S18 Hkit HO]
  · isplitr; · iexact Hinv
    isplitr; · iexact Hlv
    isplitl [Hl]; · iexact Hl
    isplitl [Hr]; · iexact Hr
    isplitl [Ho]; · iexact Ho
    isplitl [Hb]; · iexact Hb
    isplitl [H2]; · iexact H2
    isplitl [Hc]; · iexact Hc
    isplitl [Hp]; · iexact Hp
    isplitl [Hcr]; · iexact Hcr
    isplitl [Hd]; · iexact Hd
    isplitl [Hsh]; · iexact Hsh
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [Hkit]; · iexact Hkit
    iexact HO
  iapply (wp_fupd _ _)
  iapply (wp_wand) $$ H
  iintro %r ⟨Hl, Hr, Ho, Hb, H2, Hc, Hp, Hcr, Hd, Hsh, S0, S1, S2, S3, S4, S5, S6, S7, S8, S9, S10, S11, S12, S13, S14, S15, S16, S17, S18, Hkit, HW⟩
  icases HW with ⟨%W', %hW, HO⟩
  unfold kitAt
  icases Hkit with ⟨-, -, Hat⟩
  imod (Turns.close EB d (cV L) sc_bar0 hsub1 17 giver (pay m d (cV L)) (κ := κ) (L 1)) $$ [Hat] with Hbar
  · isplitr; · iexact Hinv
    iexact Hat
  imodintro
  isplitl [Hl Hcr Hd Hsh Hbar]
  · isplitr [Hbar]; swap; · iexact Hbar
    isplitr [Hsh]; swap; · iexact Hsh
    isplitl [Hl]; · iexact Hl
    isplitl [Hcr]
    · iapply (Entails.of_eq (show ((crLoc d ↦[(blk (blockOf (L 0) (L 1))).set]{fullShare} crF m d) : sProp 𝕄)
        = ((crK L).view.loc (thr d L) ↦[(crK L).view.set]{fullShare} crF m d) by rw [← crK_set]).symm); iexact Hcr
    iapply (Entails.of_eq (dIf (F := F) (L 0) (L 1) (dLoc d ↦{fullShare} dF m d)).symm); iexact Hd
  isplitl [Hr Ho Hb H2 Hc Hp Hbufs]
  · isplitr [Hbufs]; swap; · iexact Hbufs
    isplitl [Hr]; · iexact Hr
    isplitl [Ho]; · iexact Ho
    isplitl [Hb]; · iexact Hb
    isplitl [H2]; · iexact H2
    isplitl [Hc]; · iexact Hc
    isplitl [Hp]; · iexact Hp
    iempintro
  isplitl [Hsems S0 S1 S2 S3 S4 S5 S6 S7 S8 S9 S10 S11 S12 S13 S14 S15 S16 S17 S18]
  · isplitr [Hsems]; swap; · iexact Hsems
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    iempintro
  iexists W'; isplitr
  swap; · iexact HO
  ipureintro; exact hW

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s) lbV (Memref.isWhole_whole _) crV (Memref.isWhole_whole _) ddV (Memref.isWhole_whole _) rwV (Memref.isWhole_whole _)
            onV (Memref.isWhole_whole _) biV (Memref.isWhole_whole _) shV (Memref.isWhole_whole _) l2V (Memref.isWhole_whole _)
            coV (Memref.isWhole_whole _) prV (Memref.isWhole_whole _)
            cc1_scoped0 cc1_scoped1 cc1_scoped2 cc1_scoped3 cc1_scoped4 cc1_scoped5 cc1_scoped6 cc1_scoped7 cc1_scoped8 cc1_scoped9
            cc1_scoped10 cc1_scoped11 cc1_scoped12 cc1_scoped13 cc1_scoped14 cc1_scoped15 cc1_scoped16 cc1_scoped17 cc1_scoped18) ⟨⟩ c s := rfl

set_option maxRecDepth 16384 in
theorem tileObl (hl : Labels m) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hl O W hO hOlev

end Cert.Proof.Sc

end
-- ==== Proof.Launch.lean ====
module

public import proofs.«01_k».proof.Proof.Tile
public import Idealize.ShloMosaic.Lib.Pipeline.Regions
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

variable (m : (ℓ : Loc nD τ sig) → Buf (Elt F) ℓ) (ρ : Dev nD → PrngReg)

/-! ## The sequencer's split: the shared bins to tile 0, back whole at the end -/

theorem shAny_split (d : Dev nD) (c : Fin τ.nSC) :
    (iprop(∃ f, shLoc d c ↦{fullShare} f) : sProp 𝕄) = bigSep Finset.univ fun i : Fin 16 => shAny (F := F) d c i := by
  rw [Turns.take' (Finset.mem_univ (0 : Fin 16)), bigSep_congr (s := Finset.univ.erase (0 : Fin 16)) (Ψ := fun _ => iprop(emp)) fun i hi => by
    unfold shAny; rw [if_neg (Finset.ne_of_mem_erase hi)], bigSep_emp']
  unfold shAny; rw [if_pos rfl]
  have h1 : (iprop(∃ f, shLoc d c ↦{fullShare} f) : sProp 𝕄) ⊢ iprop((∃ f, shLoc d c ↦{fullShare} f) ∗ emp) := by
    iintro H; isplitl [H]; · iexact H
    iempintro
  have h2 : (iprop((∃ f, shLoc d c ↦{fullShare} f) ∗ emp) : sProp 𝕄) ⊢ iprop(∃ f, shLoc d c ↦{fullShare} f) := by
    iintro ⟨H, -⟩; iexact H
  exact BI.Entails.antisymm h1 h2

theorem shEnd_join (d : Dev nD) (c : Fin τ.nSC) :
    (bigSep Finset.univ fun i : Fin 16 => shEnd m d c i) ⊢ (iprop(∃ f, shLoc d c ↦{fullShare} f) : sProp 𝕄) := by
  refine (Entails.of_eq (pts_parts Finset.univ (Ht (lblB m d) 16 : Vec F S1024 .f32) 4 fullShare (ℓ := shLoc d c)).symm).trans ?_
  iintro H; iexists _; iexact H

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit (P m) 0 := by
  intro d c
  show iprop((bigSep Finset.univ fun i : Fin 16 => tilePts m d (Fin.cast nCore_zero c) i (m (crLoc d)) (m (dLoc d))) ∗ ownBufs (S d (coreOf c)))
    ⊢ |={Set.univ}=> iprop(
      (bigSep Finset.univ fun i : Fin ((K (F := F)).nSub 0) => iprop(tilePts m d (Fin.cast nCore_zero c) (Fin.cast nSub_zero i) (m (crLoc d)) (m (dLoc d))
        ∗ shAny d (coreOf c) (Fin.cast nSub_zero i)))
      ∗ ((bigSep Finset.univ fun i : Fin ((K (F := F)).nSub 0) => iprop((tilePts m d (Fin.cast nCore_zero c) (Fin.cast nSub_zero i) (crF m d) (dF m d)
            ∗ shEnd m d (coreOf c) (Fin.cast nSub_zero i)) ∗ semVal (bcell d (coreOf c) ((K (F := F)).sub 0 i)) 0))
          -∗ iprop(((bigSep Finset.univ fun i : Fin 16 => tilePts m d (Fin.cast nCore_zero c) i (crF m d) (dF m d)) ∗ bars d c)
            ∗ ownBufs (S d (coreOf c)))))
  rw [bigSep_sep' _ (fun i : Fin ((K (F := F)).nSub 0) => iprop(tilePts m d (Fin.cast nCore_zero c) (Fin.cast nSub_zero i) (crF m d) (dF m d)
            ∗ shEnd m d (coreOf c) (Fin.cast nSub_zero i))),
    bigSep_tasks (F := F) (fun i => iprop(tilePts m d (Fin.cast nCore_zero c) i (m (crLoc d)) (m (dLoc d)) ∗ shAny d (coreOf c) i)),
    bigSep_tasks (F := F) (fun i => iprop(tilePts m d (Fin.cast nCore_zero c) i (crF m d) (dF m d) ∗ shEnd m d (coreOf c) i)),
    bigSep_sep', bigSep_sep', ownBufs_S]
  iintro ⟨Ht, Hsh, Hrest⟩; imodintro
  isplitl [Ht Hsh]
  · isplitl [Ht]; · iexact Ht
    ihave Hsh' := (Entails.of_eq (shAny_split (F := F) d (coreOf c))) $$ Hsh
    iexact Hsh'
  iintro ⟨⟨Ht, Hsh⟩, Hbars⟩
  isplitl [Ht Hbars]
  · isplitl [Ht]; · iexact Ht
    iexact Hbars
  isplitl [Hsh]; · iapply (shEnd_join m d (coreOf c)); iexact Hsh
  iexact Hrest

/-! ## The launch's ghost state, and what each tile is handed of it -/

abbrev DC : Type := Dev nD × Fin τ.nSC
abbrev DCI : Type := Dev nD × Fin τ.nSC × Fin τ.nSub
abbrev bcell₃ (x : DCI) : GSem nD τ sig := bcell x.1 x.2.1 x.2.2

def bCells : Finset (GSem nD τ sig) := (Finset.univ : Finset DCI).image bcell₃
/-- The tokens: tile `i`'s at every meeting in every tile's cell of its SparseCore. -/
def bToks : Finset (GSem nD τ sig × ℕ × ℕ) :=
  ((Finset.univ : Finset DCI) ×ˢ (Finset.range 17 ×ˢ (Finset.univ : Finset (Fin (grid1.bound 1))))).image
    fun x => (bcell x.1.1 x.1.2.1 (x.2.2.castLE hsub1), x.2.1, x.1.2.2.val)

/-- No pipeline reads a table. -/
abbrev adm : (p : Fin 2) → (pcfgs (F := F) p).Adm := fun p => (cfgs p).toPCfg_adm
theorem phinj : Function.Injective (Pipeline.cellOf (nD := nD) (τ := τ) (Pipeline.pin (pcfgs (F := F)) adm)) := cellOf_inj

/-- The launch element. -/
def u₀ : UU := (initOf (K (F := F)).hsCells (K (F := F)).hsToks, (initOf bCells bToks,
  (initOf (Pipeline.cells (Pipeline.pin (pcfgs (F := F)) adm) phinj) (Pipeline.launchToks (Pipeline.pin (pcfgs (F := F)) adm) phinj), 1)))

/-- The TensorCore calls' share of it on device `d`. -/
abbrev G (d : Dev nD) : sProp 𝕄 := bigSep Finset.univ fun p : Fin 2 =>
  iprop(Pipeline.cellsGhost (Pipeline.pin (pcfgs (F := F)) adm) EP p d ∗ Pipeline.toksInit (Pipeline.pin (pcfgs (F := F)) adm) EP p d)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (c : UP) : (ownU ((a, (b, (c, 1))) : UU) : sProp 𝕄) ⊢ iprop(BI.own (EH a) ∗ BI.own (EB b) ∗ BI.own (EP c)) :=
  by
  have h1 := BI.own_op_elim ((uEmb (nD := nD) (τ := τ) (sig := sig) (Ix := HIx 17) (Val := Elt F) (Name := ℕ) (U := UU) (Lvl := ℕ)).toEmb.op_of_mem
    (Prod.mk_mem_op (URA.mem_op_one a) (URA.mem_one_op (b, ((c, 1) : UX)))))
  have h2 := BI.own_op_elim ((uEmb (nD := nD) (τ := τ) (sig := sig) (Ix := HIx 17) (Val := Elt F) (Name := ℕ) (U := UU) (Lvl := ℕ)).toEmb.op_of_mem
    (Prod.mk_mem_op (URA.mem_op_one (1 : UH)) (Prod.mk_mem_op (URA.mem_op_one b) (URA.mem_one_op ((c, 1) : UX)))))
  exact BI.Entails.trans h1 (BI.sep_mono (BI.Entails.refl _) h2)

theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e)]
  exact sep_elim_right.trans (bigSep_mono fun dci _ =>
    bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ (dci.1, dci.2.1, dci.2.2))⟩))

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
/-- Over the tiles, SparseCore by SparseCore. -/
theorem bigSep_dci (Φ : DCI → sProp 𝕄) : bigSep Finset.univ Φ
    = bigSep Finset.univ fun x : DC => bigSep Finset.univ fun i : Fin τ.nSub => Φ (x.1, x.2, i) := by
  rw [bigSep_univ_prod Φ, bigSep_univ_prod (fun x : DC => bigSep Finset.univ fun i : Fin τ.nSub => Φ (x.1, x.2, i))]
  exact bigSep_congr fun d _ => bigSep_univ_prod (fun y : Fin τ.nSC × Fin τ.nSub => Φ (d, y))

/-- The barriers' invariants. -/
theorem invs_b : iprop((bigSep bCells fun g => (semVal g 0 : sProp 𝕄)) ∗ bigSep bCells fun g => initState EB g)
    ⊢ |={Set.univ}=> iprop(∃ κ : DC → ℕ, bigSep Finset.univ fun x : DC => inv (κ x) (mInv m x.1 x.2)) := by
  rw [← bigSep_sep', bCells_eq, bigSep_dci]
  refine (bigSep_mono (Ψ := fun x : DC => mInv m x.1 x.2) fun x _ => ?_).trans
    ((inv_alloc_family (Finset.univ : Finset DC) (fun x : DC => mInv m x.1 x.2) ∅ (E := Set.univ)).trans ?_)
  · refine BI.Entails.trans ?_ (Turns.body_init EB x.1 x.2 sc_bar0 hsub1 17 giver (pay m x.1 x.2))
    refine bigSep_mono (s := (Finset.univ : Finset (Fin τ.nSub))) fun i _ => ?_
    have h : (iprop(semVal (bcell₃ (x.1, x.2, i)) 0 ∗ initState EB (bcell₃ (x.1, x.2, i))) : sProp 𝕄)
        ⊢ iprop(roundAuth EB (bcell₃ (x.1, x.2, i)) 0 ∅ 0 ∗ semVal (bcell₃ (x.1, x.2, i)) 0) := by
      iintro ⟨Hs, Ha, -⟩
      isplitl [Ha]; · iexact Ha
      iexact Hs
    exact h
  · iintro H
    imod H with ⟨%κ, -, Hinv⟩
    imodintro; iexists κ; iexact Hinv

omit [FloatOps F] in
theorem sum_tallyAt_one (g : GSem nD τ sig) (ι : HIx 17) (n : ℕ) : ∑ _ : Fin n, tallyAt g ι 1 = (tallyAt g ι n : CellTallies nD τ sig (HIx 17)) := by
  induction n with
  | zero => rw [Finset.univ_eq_empty, Finset.sum_empty, tallyAt_zero]
  | succ n ih => rw [Fin.sum_univ_castSucc, ih, tallyAt_add]

/-- The credits, tile by tile: at each meeting the sixteen units of the tile's own cell. -/
theorem creds_b : ((P m).oxCred : sProp 𝕄)
    ⊢ bigSep Finset.univ fun x : DCI => bigSep (Finset.range 17) fun r => cred (tallyAt (bcell₃ x) (stg r) (grid1.bound 1)) := by
  unfold SparseCore.Cfg.Pay.oxCred
  rw [SparseCore.Cfg.bigSep_threads (fun thr : Thread nD τ => (cred ((P m).oxFrom 0 thr) : sProp 𝕄))]
  refine sep_elim_right.trans (sep_elim_right.trans ?_)
  rw [bigSep_dci, bigSep_dci]
  refine bigSep_mono fun x _ => ?_
  have hox : ∀ i, (P m).oxFrom 0 (V x.1 x.2 i) = oxV x.1 x.2 0 := fun i => by
    rw [show (0 : ℕ) = (0 : Fin 1).val from rfl, (P m).oxFrom_step, (P m).oxFrom_end _ (n := (0 : Fin 1).val + 1) le_rfl, add_zero]; rfl
  dsimp only
  simp only [hox]
  unfold oxV
  have h1 : (cred (∑ r ∈ Finset.Ico 0 17, ∑ j : Fin (grid1.bound 1), tallyAt (bcell x.1 x.2 (j.castLE hsub1)) (stg r) 1) : sProp 𝕄)
      = bigSep Finset.univ fun j : Fin (grid1.bound 1) => bigSep (Finset.range 17) fun r => cred (tallyAt (bcell x.1 x.2 (j.castLE hsub1)) (stg r) 1) := by
    rw [Finset.sum_comm, SparseCore.Cfg.cred_finsum]
    exact bigSep_congr fun j _ => by rw [SparseCore.Cfg.cred_finsum, Finset.range_eq_Ico]
  rw [h1, bigSep_univ_comm]
  refine bigSep_mono (s := (Finset.univ : Finset (Fin τ.nSub))) fun j _ => ?_
  have h2 : (bigSep Finset.univ fun _ : Fin τ.nSub => bigSep (Finset.range 17) fun r => (cred (tallyAt (bcell x.1 x.2 j) (stg r) 1) : sProp 𝕄))
      = bigSep (Finset.range 17) fun r => cred (tallyAt (bcell x.1 x.2 j) (stg r) (grid1.bound 1)) := by
    rw [bigSep_range 17]
    refine (bigSep_univ_comm (fun (_ : Fin τ.nSub) (r : Fin 17) => (cred (tallyAt (bcell x.1 x.2 j) (stg r.val) 1) : sProp 𝕄))).trans ?_
    rw [bigSep_range 17]
    refine bigSep_congr fun r _ => ?_
    rw [← SparseCore.Cfg.cred_finsum, sum_tallyAt_one]; rfl
  exact Entails.of_eq h2

omit [FloatOps F] in
theorem toks_eq : (bigSep bToks fun x => (dutyTok EB x.1 x.2.1 x.2.2 : sProp 𝕄))
    = bigSep Finset.univ fun x : DCI => bigSep (Finset.range 17) fun r => bigSep Finset.univ fun j : Fin (grid1.bound 1) =>
        dutyTok EB (bcell x.1 x.2.1 (j.castLE hsub1)) r x.2.2.val := by
  unfold bToks
  rw [SparseCore.bigSep_image_of_injOn, SparseCore.bigSep_product]
  · exact bigSep_congr fun x _ => SparseCore.bigSep_product _ _ _
  rintro ⟨⟨d, c, i⟩, r, j⟩ - ⟨⟨d', c', i'⟩, r', j'⟩ - e
  have e1 := (Prod.mk.inj (Prod.mk.inj e).1).1
  have e2 : r = r' := (Prod.mk.inj (Prod.mk.inj e).2).1
  have e3 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e3
  subst hi' e2
  rfl

theorem Px_T (d : Dev nD) : (bigSep Finset.univ fun q : Fin 1 => (P m).x q (SparseCore.T d)) = iprop(emp) :=
  bigSep_univ_of_subsingleton (0 : Fin 1)
theorem Px_S (d : Dev nD) (c : Fin τ.nSC) : (bigSep Finset.univ fun q : Fin 1 => (P m).x q (S d c)) = iprop(emp) :=
  bigSep_univ_of_subsingleton (0 : Fin 1)
theorem Px_V (d : Dev nD) (c : Fin τ.nSC) (i : Fin τ.nSub) : (bigSep Finset.univ fun q : Fin 1 => (P m).x q (V d c i)) = bkit m d c i :=
  bigSep_univ_of_subsingleton (0 : Fin 1)

/-- A persistent resource goes to each part. -/
theorem bigSep_frame {I : Type} [DecidableEq I] {R : sProp 𝕄} [BI.Persistent R] {Φ Ψ : I → sProp 𝕄} (s : Finset I)
    (h : ∀ i ∈ s, iprop(R ∗ Φ i) ⊢ Ψ i) : iprop(R ∗ bigSep s Φ) ⊢ bigSep s Ψ := by
  induction s using Finset.induction_on with
  | empty => rw [Turns.empty', Turns.empty']; exact sep_elim_right
  | insert a s ha ih =>
    rw [Turns.insert' ha, Turns.insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- Each tile its kit. -/
theorem kits_deal (κ : DC → ℕ) :
    iprop((bigSep Finset.univ fun x : DC => inv (κ x) (mInv m x.1 x.2)) ∗ (bigSep Finset.univ fun x : DCI => atPos EB (bcell₃ x) 0 ∅ 0)
        ∗ (bigSep Finset.univ fun x : DCI => bigSep (Finset.range 17) fun r => bigSep Finset.univ fun j : Fin (grid1.bound 1) =>
            dutyTok EB (bcell x.1 x.2.1 (j.castLE hsub1)) r x.2.2.val)
        ∗ (bigSep Finset.univ fun x : DCI => bigSep (Finset.range 17) fun r => cred (tallyAt (bcell₃ x) (stg r) (grid1.bound 1))))
      ⊢ (bigSep Finset.univ fun thr : Thread nD τ => bigSep Finset.univ fun q : Fin 1 => (P m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hinv, Hat, Htok, Hcred⟩
  isplitr; · iempintro
  isplitr; · iempintro
  iapply (bigSep_frame (F := F) (R := bigSep Finset.univ fun x : DC => inv (κ x) (mInv m x.1 x.2))
    (Φ := fun x : DCI => iprop(atPos EB (bcell₃ x) 0 ∅ 0 ∗ (bigSep (Finset.range 17) fun r => bigSep Finset.univ fun j : Fin (grid1.bound 1) =>
            dutyTok EB (bcell x.1 x.2.1 (j.castLE hsub1)) r x.2.2.val) ∗ bigSep (Finset.range 17) fun r => cred (tallyAt (bcell₃ x) (stg r) (grid1.bound 1))))
    (Ψ := fun x : DCI => bkit m x.1 x.2.1 x.2.2) Finset.univ fun x _ => ?_)
  · unfold bkit
    iintro ⟨#Hi, Ha, Ht, Hc⟩
    isplitr
    · iexists κ (x.1, x.2.1)
      iapply (SparseCore.ent (bigSep_elim (Φ := fun y : DC => (inv (κ y) (mInv m y.1 y.2) : sProp 𝕄)) (Finset.mem_univ (x.1, x.2.1))))
      iexact Hi
    isplitl [Ht]; · iexact Ht
    isplitl [Hc]; · iexact Hc
    iexact Ha
  · isplitr; · iexact Hinv
    rw [bigSep_sep', bigSep_sep']
    isplitl [Hat]; · iexact Hat
    isplitl [Htok]; · iexact Htok
    iexact Hcred

theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund_init EB bCells bToks) $$ HB with ⟨Hst, -, Hat, Htok⟩
  imod (Pipeline.fund_ghost (Pipeline.pin (pcfgs (F := F)) adm) EP phinj) $$ HP with ⟨Hg1, Hg2⟩
  ihave Hsems := (sems_b (F := F)) $$ Hfree
  imod (invs_b m) $$ [Hsems Hst] with ⟨%κ, #Hinv⟩
  · isplitl [Hsems] <;> iassumption
  ihave Hcred' := (creds_b m) $$ Hcred
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg1 Hg2]
  · unfold G
    simp only [bigSep_sep']
    isplitl [Hg1]; · iexact Hg1
    iexact Hg2
  iapply (kits_deal m κ)
  isplitr; · iexact Hinv
  isplitl [Hat']; · iexact Hat'
  isplitl [Htok']; · iexact Htok'
  iexact Hcred'

end Cert.Proof.Sc

end
-- ==== Proof.Body.lean ====
module

public import proofs.«01_k».proof.Proof.Launch
public import Idealize.ShloMosaic.Lib.Pipeline.RegionsLoop
public import Idealize.ShloMosaic.Lib.Pipeline.ValueKit
public import proofs.«01_k».proof.Proof.Gen.KernelIdeal.Points
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

variable (m : (ℓ : Loc nD τ sig) → Buf (Elt F) ℓ)

open Idealize.ShloMosaic.Pipeline (Dat Cfg Window BodyObligation BodyObligationLoose)

theorem hz1 : (![0] : Fin 1 → Nat) = fun _ => 0 := funext fun a => by fin_cases a; rfl
theorem hz2 : (![0, 0] : Fin 2 → Nat) = fun _ => 0 := funext fun a => by fin_cases a <;> rfl

/-- A load of the whole of a memref reads it. -/
theorem readAt_all {sp : Space} {sh : Shape} {e : EltTy} (a : Memref sig .tc sp sh e) {off : Fin sh.rank → Nat} (h : off = fun _ => 0)
    (inb : ∀ x, off x + sh.size x ≤ sh.size x) (f : a.view.ty.Contents (Elt F)) :
    a.view.readAt (Elt F) (Rect.unit off sh.size inb).toLoadRect f = a.view.read (Elt F) f := by
  subst h; funext x
  show a.view.read (Elt F) f ((Rect.whole sh).emb x) = _
  rw [Rect.emb_whole_apply]

/-- A store of the whole of a memref leaves its payload to be read. -/
theorem read_write_all {sp : Space} {sh : Shape} {e : EltTy} (a : Memref sig .tc sp sh e) {off : Fin sh.rank → Nat} (h : off = fun _ => 0)
    (inb : ∀ x, off x + sh.size x ≤ sh.size x) (f : a.view.ty.Contents (Elt F)) (w : sh.Idx → Elt F e) :
    a.view.read (Elt F) ((a.access (Rect.unit off sh.size inb)).write (Elt F) f w Finset.univ) = w := by
  rw [← readAt_all a h inb]
  exact View.read_write_univ _ _

set_option maxHeartbeats 1000000 in
/-- The first call's body on its staging buffers: the block of losses from the block of scores and of labels. -/
theorem body0 (d : Dev nD) (i : grid0.Coords) (a0 : Memref sig .tc .vmem S2048 .i32) (h0 : a0.IsWhole)
    (a1 : Memref sig .tc .vmem S1000x2048 .f32) (h1 : a1.IsWhole) (a2 : Memref sig .tc .vmem S1x2048 .f32) (h2 : a2.IsWhole)
    (X0 : S2048.Idx → Elt F .i32) (X1 : S1000x2048.Idx → Elt F .f32)
    (X2 : S1x2048.Idx → Elt F .f32) (Kk : PUnit → sProp 𝕄) :
    iprop((owns (T d) a0 fullShare X0 ∗ owns (T d) a1 fullShare X1 ∗ owns (T d) a2 fullShare X2)
        ∗ (iprop(owns (T d) a0 fullShare X0 ∗ owns (T d) a1 fullShare X1
            ∗ owns (T d) a2 fullShare (k0_pay1 (F := F) X1 X0)) -∗ Kk ⟨⟩))
      ⊢ wp frame (wpE (defs₀ (F := F)) 𝒱₀ (T d) none) Set.univ (cc0__tc_body i a0 h0 a1 h1 a2 h2) Kk := by
  rw [cc0__tc_body_eq_skeleton]; unfold cc0__tc_body_skel owns
  simp only [Prog.lift, Prog.bind_op, Prog.bind_ret]
  iintro ⟨⟨⟨%f0, %e0, H0⟩, ⟨%f1, %e1, H1⟩, ⟨%f2, %e2, H2⟩⟩, Hk⟩
  sl_steps
  iapply Hk
  isplitl [H0]
  · iexists f0; isplitr; · ipureintro; exact e0
    iexact H0
  isplitl [H1]
  · iexists f1; isplitr; · ipureintro; exact e1
    iexact H1
  iexists _; isplitr; rotate_left; · iexact H2
  ipureintro
  rw [read_write_all a2 hz2, readAt_all a0 hz1, readAt_all a1 hz2, e0, e1]

set_option maxHeartbeats 1000000 in
/-- The last call's body on its staging buffers: the loss, one number. -/
theorem body1 (d : Dev nD) (a0 : Memref sig .tc .vmem S1x16384 .f32) (h0 : a0.IsWhole)
    (a1 : Memref sig .tc .vmem S1x16384 .f32) (h1 : a1.IsWhole) (a2 : Memref sig .tc .vmem S1x16 .f32) (h2 : a2.IsWhole)
    (a3 : Memref sig .tc .vmem S1x1 .f32) (h3 : a3.IsWhole)
    (X0 X1 : S1x16384.Idx → Elt F .f32) (X2 : S1x16.Idx → Elt F .f32)
    (X3 : S1x1.Idx → Elt F .f32) (Kk : PUnit → sProp 𝕄) :
    iprop((owns (T d) a0 fullShare X0 ∗ owns (T d) a1 fullShare X1 ∗ owns (T d) a2 fullShare X2 ∗ owns (T d) a3 fullShare X3)
        ∗ (iprop(owns (T d) a0 fullShare X0 ∗ owns (T d) a1 fullShare X1 ∗ owns (T d) a2 fullShare X2
            ∗ owns (T d) a3 fullShare (k2_pay1 (F := F) X0 X1 X2)) -∗ Kk ⟨⟩))
      ⊢ wp frame (wpE (defs₀ (F := F)) 𝒱₀ (T d) none) Set.univ (cc2__fin_body a0 h0 a1 h1 a2 h2 a3 h3) Kk := by
  rw [cc2__fin_body_eq_skeleton]; unfold cc2__fin_body_skel owns
  simp only [Prog.lift, Prog.bind_op, Prog.bind_ret]
  iintro ⟨⟨⟨%f0, %e0, H0⟩, ⟨%f1, %e1, H1⟩, ⟨%f2, %e2, H2⟩, ⟨%f3, %e3, H3⟩⟩, Hk⟩
  sl_steps
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr; rotate_left; · iexact H3
  ipureintro
  rw [read_write_all a3 hz2, readAt_all a0 hz2, readAt_all a1 hz2, readAt_all a2 hz2, e0, e1, e2]

end Cert.Proof.Sc

end
-- ==== Proof.Tc.lean ====
module

public import proofs.«01_k».proof.Proof.Body
public import Idealize.ShloMosaic.Lib.Pipeline.RegionArrays

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

variable (m : (ℓ : Loc nD τ sig) → Buf (Elt F) ℓ)

open Idealize.ShloMosaic.Pipeline (Dat Cfg Window BodyObligation BodyObligationLoose)
open Idealize.ShloMosaic.StableHlo (held wp_hlo_within)

/-! ## What the TensorCore's arrays hold, step by step -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v20' : DevRef τ sig := Proc.devRef .tc (main_v2_0 : Ref sig .tc)
abbrev v21' : DevRef τ sig := Proc.devRef .tc (main_v2_1 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

abbrev opT : HloOp τ sig (Elt F) := StableHlo.unary main_arg0 main_v0 ((transpose S1000x16384 [1, 0] · transposes_S16384x1000_S1000x16384_1_0) : (⟨S16384x1000, .f32⟩ : BufTy).Contents (Elt F) → (⟨S1000x16384, .f32⟩ : BufTy).Contents (Elt F))
abbrev op3 : HloOp τ sig (Elt F) := StableHlo.reshape main_v2_0 main_v3 (rfl : (.f32 : EltTy) = .f32) shapeCasts_S16384_S1x16384
abbrev op4 : HloOp τ sig (Elt F) := StableHlo.reshape main_v2_1 main_v4 (rfl : (.f32 : EltTy) = .f32) shapeCasts_S16_S1x16
abbrev op6 : HloOp τ sig (Elt F) := StableHlo.reshape main_v5 main_v6 (rfl : (.f32 : EltTy) = .f32) shapeCasts_S1x1_S_

abbrev TS : Finset (DevRef τ sig) := Pipeline.ucRefs τ sig

def V0 (d : Dev nD) : Valuation τ sig (Elt F) := fun b => m (d, b)
/-- After the transpose. -/
def V1 (d : Dev nD) : Valuation τ sig (Elt F) := (opT (F := F)).result (V0 m d)

/-- The bound on the waits a TensorCore has recorded between two calls. -/
abbrev below (d : Dev nD) (n : ℕ) : Set (SemLoc sig × HIx 17) := {p | (K (F := F)).lev (T d, p.1) p.2 ≤ 8 * Blocks.fst (Q := 1) (N := 17) n}

/-- What the scoped buffers no window stages hold: anything. -/
abbrev Φ0 (d : Dev nD) : sProp 𝕄 := Pipeline.scopedRest (Ix := HIx 17) (Name := ℕ) (U := UU) (Lvl := ℕ) (Val := Elt F) spec0 d
abbrev Φ2 (d : Dev nD) : sProp 𝕄 := Pipeline.scopedRest (Ix := HIx 17) (Name := ℕ) (U := UU) (Lvl := ℕ) (Val := Elt F) spec2 d

/-- The labels' block and the scores' block at a point of the first call. -/
def lblk (d : Dev nD) (t : Fin cfg0.N) : S2048.Idx → Elt F .i32 := (win0_0.blk t).view.read (Elt F) (V1 m d a1')
def sblk (d : Dev nD) (t : Fin cfg0.N) : S1000x2048.Idx → Elt F .f32 := (win0_1.blk t).view.read (Elt F) (V1 m d v0')

def dat0 (d : Dev nD) : Dat τ (Elt F) (HIx 17) ℕ UU ℕ cfg0 d where
  A w := V1 m d (Proc.devRef .tc (Pipeline.arrRef spec0 w))
  after w t := match w with
    | ⟨0, _⟩ => lblk m d t
    | ⟨1, _⟩ => sblk m d t
    | ⟨2, _⟩ => k0_pay1 (sblk m d t) (lblk m d t)
  Φ _ := Φ0 d
  q _ := fullShare
  owed _ := (K (F := F)).Otc d 0
  recorded _ := below (F := F) d 0

/-- The losses as the first call leaves them. -/
def nllA (d : Dev nD) : (⟨S1x16384, .f32⟩ : BufTy).Contents (Elt F) := (dat0 m d).arrAt 2 cfg0.N

/-- After the first call; after the SparseCore call; after the two reshapes. -/
def V2 (d : Dev nD) : Valuation τ sig (Elt F) := Function.update (V1 m d) v1' (nllA m d)
def V3 (d : Dev nD) : Valuation τ sig (Elt F) := Function.update (Function.update (V2 m d) v20' (crF m d)) v21' (dF m d)
def V5 (d : Dev nD) : Valuation τ sig (Elt F) := (op4 (F := F)).result ((op3 (F := F)).result (V3 m d))

def xblk (d : Dev nD) (t : Fin cfg2.N) : S1x16384.Idx → Elt F .f32 := (win2_0.blk t).view.read (Elt F) (V5 m d v1')
def yblk (d : Dev nD) (t : Fin cfg2.N) : S1x16384.Idx → Elt F .f32 := (win2_1.blk t).view.read (Elt F) (V5 m d v3')
def zblk (d : Dev nD) (t : Fin cfg2.N) : S1x16.Idx → Elt F .f32 := (win2_2.blk t).view.read (Elt F) (V5 m d v4')

def dat2 (d : Dev nD) : Dat τ (Elt F) (HIx 17) ℕ UU ℕ cfg2 d where
  A w := V5 m d (Proc.devRef .tc (Pipeline.arrRef spec2 w))
  after w t := match w with
    | ⟨0, _⟩ => xblk m d t
    | ⟨1, _⟩ => yblk m d t
    | ⟨2, _⟩ => zblk m d t
    | ⟨3, _⟩ => k2_pay1 (xblk m d t) (yblk m d t) (zblk m d t)
  Φ _ := Φ2 d
  q _ := fullShare
  owed _ := (K (F := F)).Otc d 1
  recorded _ := below (F := F) d 1

/-- The one number the last call leaves. -/
def outA (d : Dev nD) : (⟨S1x1, .f32⟩ : BufTy).Contents (Elt F) := (dat2 m d).arrAt 3 cfg2.N

def V6 (d : Dev nD) : Valuation τ sig (Elt F) := Function.update (V5 m d) v5' (outA m d)
def V7 (d : Dev nD) : Valuation τ sig (Elt F) := (op6 (F := F)).result (V6 m d)

def pdats : (p : Fin 2) → (d : Dev nD) → Dat τ (Elt F) (HIx 17) ℕ UU ℕ (Pipeline.pin (pcfgs (F := F)) adm p) d
  | ⟨0, _⟩, d => dat0 m d
  | ⟨1, _⟩, d => dat2 m d

theorem A0_eq (d : Dev nD) (w : Fin cfg0.W) : (dat0 m d).A w = V1 m d (Proc.devRef .tc (Pipeline.arrRef spec0 w)) := by
  dsimp only [dat0]
theorem A2_eq (d : Dev nD) (w : Fin cfg2.W) : (dat2 m d).A w = V5 m d (Proc.devRef .tc (Pipeline.arrRef spec2 w)) := by
  dsimp only [dat2]

theorem before0_0 (d : Dev nD) (t : Fin cfg0.N) (x) : (dat0 m d).before (0 : Fin 3) t x = lblk m d t := by
  rw [(dat0 m d).before_fetched _ t (fetch0_0 t)]; rfl
theorem before0_1 (d : Dev nD) (t : Fin cfg0.N) (x) : (dat0 m d).before (1 : Fin 3) t x = sblk m d t := by
  rw [(dat0 m d).before_fetched _ t (fetch0_1 t)]; rfl
theorem before2_0 (d : Dev nD) (t : Fin cfg2.N) (x) : (dat2 m d).before (0 : Fin 4) t x = xblk m d t := by
  rw [(dat2 m d).before_fetched _ t (fetch2_0 t)]; rfl
theorem before2_1 (d : Dev nD) (t : Fin cfg2.N) (x) : (dat2 m d).before (1 : Fin 4) t x = yblk m d t := by
  rw [(dat2 m d).before_fetched _ t (fetch2_1 t)]; rfl
theorem before2_2 (d : Dev nD) (t : Fin cfg2.N) (x) : (dat2 m d).before (2 : Fin 4) t x = zblk m d t := by
  rw [(dat2 m d).before_fetched _ t (fetch2_2 t)]; rfl

set_option maxHeartbeats 1000000 in
theorem bodyOb0 (d : Dev nD) : BodyObligation (dat0 m d) (defs₀ (F := F)) 𝒱₀ none Set.univ := fun t => by
  rw [bigSep_W0, bigSep_W0]
  rw [show (dat0 m d).Φ t.succ = (dat0 m d).Φ t.castSucc from rfl,
    show (dat0 m d).owesAt none t.succ = (dat0 m d).owesAt none t.castSucc from rfl]
  iintro ⟨HΦ, Ho, ⟨%d0, H0⟩, ⟨%d1, H1⟩, ⟨%d2, H2⟩⟩
  rw [before0_0 m d t d0, before0_1 m d t d1]
  iapply (body0 (F := F) d (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (lblk m d t) (sblk m d t) _ _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]; · iexact H0
  isplitl [H1]; · iexact H1
  iexact H2

set_option maxHeartbeats 1000000 in
theorem bodyOb2 (d : Dev nD) : BodyObligation (dat2 m d) (defs₀ (F := F)) 𝒱₀ none Set.univ := fun t => by
  rw [bigSep_W2, bigSep_W2]
  rw [show (dat2 m d).Φ t.succ = (dat2 m d).Φ t.castSucc from rfl,
    show (dat2 m d).owesAt none t.succ = (dat2 m d).owesAt none t.castSucc from rfl]
  iintro ⟨HΦ, Ho, ⟨%d0, H0⟩, ⟨%d1, H1⟩, ⟨%d2, H2⟩, ⟨%d3, H3⟩⟩
  rw [before2_0 m d t d0, before2_1 m d t d1, before2_2 m d t d2]
  iapply (body1 (F := F) d (win2_0.stage (cfg2.slots t 0)) (hstage2_0 0)
    (win2_1.stage (cfg2.slots t 1)) (hstage2_1 0) (win2_2.stage (cfg2.slots t 2)) (hstage2_2 0) (win2_3.stage (cfg2.slots t 3)) (hstage2_3 0)
    (xblk m d t) (yblk m d t) (zblk m d t) _ _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The two calls as regions -/

/-- What a TensorCore has signed for between two SparseCore calls. -/
abbrev dues (d : Dev nD) (n : ℕ) : sProp 𝕄 :=
  iprop(∃ W, ⌜(K (F := F)).WBelow (T d) W (8 * Blocks.fst (Q := 1) (N := 17) n)⌝ ∗ owes (T d) ((K (F := F)).Otc d n) W)

set_option backward.isDefEq.respectTransparency.types false in
theorem arrs_in0 (d : Dev nD) : (held (T d) TS (V1 m d) : sProp 𝕄)
    ⊢ iprop((dat0 m d).arrays ((dat0 m d).arrAt · 0) ∗ Pipeline.unscopedRest spec0 d (fun b => V1 m d (Proc.devRef .tc b))) := by
  rw [show held (T d) TS (V1 m d) = unscopedBufs d (fun b => V1 m d (Proc.devRef .tc b)) from (Pipeline.unscopedBufs_held d _).symm]
  exact Pipeline.arrays_of_unscopedBufs (p := (0 : Fin 2)) (pcfgs (F := F)) adm (pdats m) launch0.win launch0.arr_whole d
    ((pdats m 0 d).share_full fun _ => rfl) (fun b => V1 m d (Proc.devRef .tc b)) (A0_eq m d)

set_option backward.isDefEq.respectTransparency.types false in
theorem arrs_in2 (d : Dev nD) : (held (T d) TS (V5 m d) : sProp 𝕄)
    ⊢ iprop((dat2 m d).arrays ((dat2 m d).arrAt · 0) ∗ Pipeline.unscopedRest spec2 d (fun b => V5 m d (Proc.devRef .tc b))) := by
  rw [show held (T d) TS (V5 m d) = unscopedBufs d (fun b => V5 m d (Proc.devRef .tc b)) from (Pipeline.unscopedBufs_held d _).symm]
  exact Pipeline.arrays_of_unscopedBufs (p := (1 : Fin 2)) (pcfgs (F := F)) adm (pdats m) launch2.win launch2.arr_whole d
    ((pdats m 1 d).share_full fun _ => rfl) (fun b => V5 m d (Proc.devRef .tc b)) (A2_eq m d)

theorem fin0 (d : Dev nD) (w : Fin cfg0.W) : (dat0 m d).arrAt w cfg0.N = V2 m d (Proc.devRef .tc (Pipeline.arrRef spec0 w)) := by
  have h (b : DevRef τ sig) (hb : b ≠ v1') : V2 m d b = V1 m d b := Function.update_of_ne hb _ _
  match w with
  | ⟨0, _⟩ => exact ((dat0 m d).arrAt_in 0 rfl _).trans ((A0_eq m d 0).trans (h a1' (by decide)).symm)
  | ⟨1, _⟩ => exact ((dat0 m d).arrAt_in 1 rfl _).trans ((A0_eq m d 1).trans (h v0' (by decide)).symm)
  | ⟨2, _⟩ => exact (Function.update_self (f := V1 m d) v1' (nllA m d)).symm

theorem fin2 (d : Dev nD) (w : Fin cfg2.W) : (dat2 m d).arrAt w cfg2.N = V6 m d (Proc.devRef .tc (Pipeline.arrRef spec2 w)) := by
  have h (b : DevRef τ sig) (hb : b ≠ v5') : V6 m d b = V5 m d b := Function.update_of_ne hb _ _
  match w with
  | ⟨0, _⟩ => exact ((dat2 m d).arrAt_in 0 rfl _).trans ((A2_eq m d 0).trans (h v1' (by decide)).symm)
  | ⟨1, _⟩ => exact ((dat2 m d).arrAt_in 1 rfl _).trans ((A2_eq m d 1).trans (h v3' (by decide)).symm)
  | ⟨2, _⟩ => exact ((dat2 m d).arrAt_in 2 rfl _).trans ((A2_eq m d 2).trans (h v4' (by decide)).symm)
  | ⟨3, _⟩ => exact (Function.update_self (f := V5 m d) v5' (outA m d)).symm

set_option backward.isDefEq.respectTransparency.types false in
theorem arrs_out0 (d : Dev nD) :
    iprop((dat0 m d).arrays ((dat0 m d).arrAt · cfg0.N) ∗ Pipeline.unscopedRest spec0 d (fun b => V1 m d (Proc.devRef .tc b)))
      ⊢ (held (T d) TS (V2 m d) : sProp 𝕄) := by
  rw [show held (T d) TS (V2 m d) = unscopedBufs d (fun b => V2 m d (Proc.devRef .tc b)) from (Pipeline.unscopedBufs_held d _).symm]
  exact Pipeline.unscopedBufs_of_arrays (p := (0 : Fin 2)) (pcfgs (F := F)) adm launch0.win launch0.arr_whole d (pdats m)
    ((pdats m 0 d).share_full fun _ => rfl) (fun b => V1 m d (Proc.devRef .tc b)) (fun b => V2 m d (Proc.devRef .tc b))
    ((dat0 m d).arrAt · cfg0.N) (fin0 m d)
    fun b hb => Function.update_of_ne (fun e => hb (Finset.mem_image.mpr ⟨(2 : Fin 3), Finset.mem_univ _, (Proc.devRef_injective _ e).symm⟩)) _ _

set_option backward.isDefEq.respectTransparency.types false in
theorem arrs_out2 (d : Dev nD) :
    iprop((dat2 m d).arrays ((dat2 m d).arrAt · cfg2.N) ∗ Pipeline.unscopedRest spec2 d (fun b => V5 m d (Proc.devRef .tc b)))
      ⊢ (held (T d) TS (V6 m d) : sProp 𝕄) := by
  rw [show held (T d) TS (V6 m d) = unscopedBufs d (fun b => V6 m d (Proc.devRef .tc b)) from (Pipeline.unscopedBufs_held d _).symm]
  exact Pipeline.unscopedBufs_of_arrays (p := (1 : Fin 2)) (pcfgs (F := F)) adm launch2.win launch2.arr_whole d (pdats m)
    ((pdats m 1 d).share_full fun _ => rfl) (fun b => V5 m d (Proc.devRef .tc b)) (fun b => V6 m d (Proc.devRef .tc b))
    ((dat2 m d).arrAt · cfg2.N) (fin2 m d)
    fun b hb => Function.update_of_ne (fun e => hb (Finset.mem_image.mpr ⟨(3 : Fin 4), Finset.mem_univ _, (Proc.devRef_injective _ e).symm⟩)) _ _

/-- A bound met by recorded waits goes in with the loop's own waits, -/
theorem dues_in (d : Dev nD) (n : ℕ) (S : Set (SemLoc sig × HIx 17)) :
    dues (F := F) d n ⊢ (Pipeline.owesWithin d ((K (F := F)).Otc d n) (below (F := F) d n ∪ S) : sProp 𝕄) := by
  unfold Pipeline.owesWithin
  iintro ⟨%W, %hW, HO⟩
  iexists W; isplitr; · ipureintro; exact fun p hp => Or.inl (hW p hp)
  iexact HO

/-- and comes out again, those being at level zero. -/
theorem dues_out (d : Dev nD) (n : ℕ) (S : Set (SemLoc sig × HIx 17)) (hS : ∀ p ∈ S, p.2 = none) :
    (Pipeline.owesWithin d ((K (F := F)).Otc d n) (below (F := F) d n ∪ S) : sProp 𝕄) ⊢ dues (F := F) d n := by
  unfold Pipeline.owesWithin
  iintro ⟨%W, %hW, HO⟩
  iexists W; isplitr
  · ipureintro
    intro p hp
    rcases hW hp with h | h
    · exact h
    · rw [hS p h]; exact Nat.zero_le _
  iexact HO

set_option backward.isDefEq.respectTransparency.types false in
/-- The first call, from the arrays after the transpose to the arrays with the losses. -/
def reg0 : Pipeline.RegionSeg (pcfgs (F := F)) adm (pdats m) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (bodyOb0 m d).loose
  hwaits d := Pipeline.cellsWaits_of_cut (Pipeline.pin (pcfgs (F := F)) adm) (pdats m) none 0 d 0 ((K (F := F)).Otc d 0) (fun _ => rfl)
    (fun _ _ => Finset.mem_univ _) (fun _ _ => Nat.le_refl _)
    fun g i h => ⟨Finset.mem_univ _, Nat.lt_of_lt_of_le (Nat.succ_pos _) (SparseCore.Cfg.lev_of_Otc_pos h)⟩
  pre d := iprop(held (T d) TS (V1 m d) ∗ dues (F := F) d 0)
  post d := iprop(held (T d) TS (V2 m d) ∗ dues (F := F) d 0)
  X _ := iprop(emp)
  Y _ := iprop(emp)
  Z d := Pipeline.unscopedRest spec0 d (fun b => V1 m d (Proc.devRef .tc b))
  hentry d := by
    rw [Pipeline.ownSems0_none, Pipeline.prefHeld_of_none _ rfl]
    iintro ⟨⟨Hh, HO⟩, -, -⟩
    ihave H := (arrs_in0 m d) $$ Hh
    icases H with ⟨Ha, Hr⟩
    imodintro
    isplitl [Ha]; · iexact Ha
    isplitr; · iempintro
    isplitl [HO]
    · iapply (dues_in (F := F) d 0 _); iexact HO
    isplitr; · iempintro
    iexact Hr
  hin d := by
    show iprop(emp ∗ _ ∗ Φ0 (F := F) d) ⊢ Φ0 (F := F) d
    iintro ⟨-, -, Hr⟩; iexact Hr
  hout d := by
    rw [Pipeline.ownSems0_none]
    show Φ0 (F := F) d ⊢ iprop(emp ∗ emp ∗ Φ0 (F := F) d)
    iintro Hr
    isplitr; · iempintro
    isplitr; · iempintro
    iexact Hr
  hexit d := by
    show iprop((dat0 m d).arrays ((dat0 m d).arrAt · cfg0.N) ∗ Pipeline.owesWithin d ((K (F := F)).Otc d 0) (below (F := F) d 0 ∪ cfg0.waitPairs none)
      ∗ emp ∗ Pipeline.unscopedRest spec0 d (fun b => V1 m d (Proc.devRef .tc b))) ⊢ _
    iintro ⟨Ha, HO, -, Hr⟩
    imodintro
    isplitl [Ha Hr]
    · iapply (arrs_out0 m d); isplitl [Ha] <;> iassumption
    · iapply (dues_out (F := F) d 0 (cfg0.waitPairs none) fun p hp => by obtain ⟨w, s, rfl⟩ := hp; rfl); iexact HO

set_option backward.isDefEq.respectTransparency.types false in
/-- The last call, from the arrays after the reshapes to the arrays with the loss. -/
def reg2 : Pipeline.RegionSeg (pcfgs (F := F)) adm (pdats m) none (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody d := (bodyOb2 m d).loose
  hwaits d := Pipeline.cellsWaits_of_cut (Pipeline.pin (pcfgs (F := F)) adm) (pdats m) none 1 d 0 ((K (F := F)).Otc d 1) (fun _ => rfl)
    (fun _ _ => Finset.mem_univ _) (fun _ _ => Nat.le_refl _)
    fun g i h => ⟨Finset.mem_univ _, Nat.lt_of_lt_of_le (Nat.succ_pos _) (SparseCore.Cfg.lev_of_Otc_pos h)⟩
  pre d := iprop(held (T d) TS (V5 m d) ∗ dues (F := F) d 1)
  post d := iprop(held (T d) TS (V6 m d) ∗ dues (F := F) d 1)
  X _ := iprop(emp)
  Y _ := iprop(emp)
  Z d := Pipeline.unscopedRest spec2 d (fun b => V5 m d (Proc.devRef .tc b))
  hentry d := by
    rw [Pipeline.ownSems0_none, Pipeline.prefHeld_of_none _ rfl]
    iintro ⟨⟨Hh, HO⟩, -, -⟩
    ihave H := (arrs_in2 m d) $$ Hh
    icases H with ⟨Ha, Hr⟩
    imodintro
    isplitl [Ha]; · iexact Ha
    isplitr; · iempintro
    isplitl [HO]
    · iapply (dues_in (F := F) d 1 _); iexact HO
    isplitr; · iempintro
    iexact Hr
  hin d := by
    show iprop(emp ∗ _ ∗ Φ2 (F := F) d) ⊢ Φ2 (F := F) d
    iintro ⟨-, -, Hr⟩; iexact Hr
  hout d := by
    rw [Pipeline.ownSems0_none]
    show Φ2 (F := F) d ⊢ iprop(emp ∗ emp ∗ Φ2 (F := F) d)
    iintro Hr
    isplitr; · iempintro
    isplitr; · iempintro
    iexact Hr
  hexit d := by
    show iprop((dat2 m d).arrays ((dat2 m d).arrAt · cfg2.N) ∗ Pipeline.owesWithin d ((K (F := F)).Otc d 1) (below (F := F) d 1 ∪ cfg2.waitPairs none)
      ∗ emp ∗ Pipeline.unscopedRest spec2 d (fun b => V5 m d (Proc.devRef .tc b))) ⊢ _
    iintro ⟨Ha, HO, -, Hr⟩
    imodintro
    isplitl [Ha Hr]
    · iapply (arrs_out2 m d); isplitl [Ha] <;> iassumption
    · iapply (dues_out (F := F) d 1 (cfg2.waitPairs none) fun p hp => by obtain ⟨w, s, rfl⟩ := hp; rfl); iexact HO

end Cert.Proof.Sc

end
-- ==== Proof.Main.lean ====
module

public import proofs.«01_k».proof.Proof.Tc

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 17) (Elt F) ℕ UU ℕ

open Idealize.ShloMosaic.Pipeline (Dat Cfg Window BodyObligation BodyObligationLoose)
open Idealize.ShloMosaic.StableHlo (held wp_hlo_within)

variable (m : (ℓ : Loc nD τ sig) → Buf (Elt F) ℓ) (ρ : Dev nD → PrngReg)

/-! ## The SparseCore call's operands and results, dealt to the tiles and gathered -/

/-- One resource for tile 0 of SparseCore 0 and nothing for the rest. -/
theorem one_of_tiles (R : sProp 𝕄) :
    (bigSep Finset.univ fun c : Fin 2 => bigSep Finset.univ fun i : Fin 16 => if c = 0 ∧ i = 0 then R else iprop(emp)) = R := by
  have h1 (A : sProp 𝕄) : iprop(A ∗ emp) = A := by
    have a : iprop(A ∗ emp) ⊢ A := by iintro ⟨H, -⟩; iexact H
    have b : A ⊢ iprop(A ∗ emp) := by
      iintro H; isplitl [H]; · iexact H
      iempintro
    exact BI.Entails.antisymm a b
  rw [Turns.take' (Finset.mem_univ (0 : Fin 2)), bigSep_congr (s := Finset.univ.erase (0 : Fin 2)) (Ψ := fun _ => iprop(emp)) fun c hc => by
      rw [bigSep_congr (Ψ := fun _ => iprop(emp)) fun i _ => if_neg fun h => Finset.ne_of_mem_erase hc h.1, bigSep_emp'],
    bigSep_emp', h1,
    Turns.take' (Finset.mem_univ (0 : Fin 16)), bigSep_congr (s := Finset.univ.erase (0 : Fin 16)) (Ψ := fun _ => iprop(emp)) fun i hi =>
      if_neg fun h => Finset.ne_of_mem_erase hi h.2, bigSep_emp', h1, if_pos ⟨rfl, rfl⟩]

theorem lbl_tiles (d : Dev nD) : (lblLoc d ↦{fullShare} m (lblLoc d) : sProp 𝕄)
    = bigSep Finset.univ fun c : Fin 2 => bigSep Finset.univ fun i : Fin 16 => lblLoc d ↦{part 5 fullShare (blockOf c i).val} m (lblLoc d) := by
  rw [pts_range Finset.univ _ 5, show (2 ^ 5 : ℕ) = 32 by norm_num, bigSep_range 32]
  exact bigSep_blocks fun k : Fin 32 => lblLoc d ↦{part 5 fullShare k.val} m (lblLoc d)

theorem cr_tiles (d : Dev nD) (f : Buf (Elt F) (crLoc d)) : (crLoc d ↦{fullShare} f : sProp 𝕄)
    = bigSep Finset.univ fun c : Fin 2 => bigSep Finset.univ fun i : Fin 16 => crLoc d ↦[(blk (blockOf c i)).set]{fullShare} f := by
  rw [← bigSep_blocks (fun k : Fin 32 => (crLoc d ↦[(blk k).set]{fullShare} f : sProp 𝕄)),
    ← pointsTo_biUnion (ℓ := crLoc d) Finset.univ (fun k : Fin 32 => (blk k).set) fun t _ t' _ h => Rect.part_disjoint hdiv h]
  exact congrArg (fun I => (crLoc d ↦[I]{fullShare} f : sProp 𝕄)) (Rect.biUnion_part hdiv).symm

theorem tiles_eq (d : Dev nD) (f : Buf (Elt F) (crLoc d)) (g : Buf (Elt F) (dLoc d)) :
    (bigSep Finset.univ fun c : Fin 2 => bigSep Finset.univ fun i : Fin 16 => tilePts m d c i f g)
      = iprop((lblLoc d ↦{fullShare} m (lblLoc d)) ∗ (crLoc d ↦{fullShare} f) ∗ dLoc d ↦{fullShare} g) := by
  unfold tilePts
  simp only [bigSep_sep']
  rw [one_of_tiles, ← lbl_tiles, ← cr_tiles]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The barrier semaphores of every task, at zero. -/
abbrev allBars (d : Dev nD) : sProp 𝕄 := bigSep Finset.univ fun c : Fin ((K (F := F)).nCore 0) => bars (F := F) d c

theorem st0_eq (d : Dev nD) : (bigSep Finset.univ fun c : Fin ((K (F := F)).nCore 0) => (P m).st 0 d c)
    = iprop((lblLoc d ↦{fullShare} m (lblLoc d)) ∗ (crLoc d ↦{fullShare} m (crLoc d)) ∗ dLoc d ↦{fullShare} m (dLoc d)) :=
  (bigSep_cores (F := F) fun c => bigSep Finset.univ fun i : Fin 16 => tilePts m d c i (m (crLoc d)) (m (dLoc d))).trans (tiles_eq m d _ _)

theorem dn0_eq (d : Dev nD) : (bigSep Finset.univ fun c : Fin ((K (F := F)).nCore 0) => (P m).dn 0 d c)
    = iprop(((lblLoc d ↦{fullShare} m (lblLoc d)) ∗ (crLoc d ↦{fullShare} crF m d) ∗ dLoc d ↦{fullShare} dF m d) ∗ allBars (F := F) d) := by
  show (bigSep Finset.univ fun c : Fin ((K (F := F)).nCore 0) =>
    iprop((bigSep Finset.univ fun i : Fin 16 => tilePts m d (Fin.cast nCore_zero c) i (crF m d) (dF m d)) ∗ bars (F := F) d c)) = _
  rw [bigSep_sep', bigSep_cores (F := F) fun c => bigSep Finset.univ fun i : Fin 16 => tilePts m d c i (crF m d) (dF m d), tiles_eq]

/-! ## The arrays, some of them taken out -/

theorem held_take3 (d : Dev nD) {a b c : DevRef τ sig} (ha : a ∈ (TS : Finset (DevRef τ sig))) (hb : b ∈ (TS : Finset (DevRef τ sig)).erase a)
    (hc : c ∈ ((TS : Finset (DevRef τ sig)).erase a).erase b) (W : Valuation τ sig (Elt F)) :
    (held (T d) TS W : sProp 𝕄)
      = iprop((((d, a) : Loc nD τ sig) ↦{fullShare} W a) ∗ (((d, b) : Loc nD τ sig) ↦{fullShare} W b) ∗ (((d, c) : Loc nD τ sig) ↦{fullShare} W c)
          ∗ held (T d) ((((TS : Finset (DevRef τ sig)).erase a).erase b).erase c) W) := by
  unfold held
  rw [Turns.take' ha, Turns.take' hb, Turns.take' hc]

theorem held_sc (d : Dev nD) (W : Valuation τ sig (Elt F)) : (held (T d) TS W : sProp 𝕄)
    = iprop((lblLoc d ↦{fullShare} W a1') ∗ (crLoc d ↦{fullShare} W v20') ∗ (dLoc d ↦{fullShare} W v21')
        ∗ held (T d) ((((TS : Finset (DevRef τ sig)).erase a1').erase v20').erase v21') W) :=
  held_take3 (F := F) d (a := a1') (b := v20') (c := v21') (by decide) (by decide) (by decide) W

theorem held_end (d : Dev nD) (W : Valuation τ sig (Elt F)) : (held (T d) TS W : sProp 𝕄)
    = iprop(((SparseCore.T d).loc main_arg0 ↦{fullShare} W a0') ∗ (lblLoc d ↦{fullShare} W a1') ∗ ((SparseCore.T d).loc main_v6 ↦{fullShare} W v6')
        ∗ held (T d) ((((TS : Finset (DevRef τ sig)).erase a0').erase a1').erase v6') W) :=
  held_take3 (F := F) d (a := a0') (b := a1') (c := v6') (by decide) (by decide) (by decide) W

theorem V2_of_ne (d : Dev nD) {b : DevRef τ sig} (h0 : b ≠ v0') (h1 : b ≠ v1') : V2 m d b = m (d, b) := by
  unfold V2 V1
  rw [Function.update_of_ne h1, (opT (F := F)).result_of_not_mem _ (show b ∉ ({v0'} : Finset (DevRef τ sig)) from fun h => h0 (Finset.mem_singleton.mp h))]
  rfl

theorem V3_of_ne (d : Dev nD) {b : DevRef τ sig} (h0 : b ≠ v20') (h1 : b ≠ v21') : V3 m d b = V2 m d b := by
  unfold V3
  rw [Function.update_of_ne h1, Function.update_of_ne h0]

theorem V5_of_ne (d : Dev nD) {b : DevRef τ sig} (h0 : b ≠ v3') (h1 : b ≠ v4') : V5 m d b = V3 m d b := by
  unfold V5
  rw [(op4 (F := F)).result_of_not_mem _ (show b ∉ ({v4'} : Finset (DevRef τ sig)) from fun h => h1 (Finset.mem_singleton.mp h)),
    (op3 (F := F)).result_of_not_mem _ (show b ∉ ({v3'} : Finset (DevRef τ sig)) from fun h => h0 (Finset.mem_singleton.mp h))]

theorem V7_of_ne (d : Dev nD) {b : DevRef τ sig} (h0 : b ≠ v5') (h1 : b ≠ v6') : V7 m d b = V5 m d b := by
  unfold V7 V6
  rw [(op6 (F := F)).result_of_not_mem _ (show b ∉ ({v6'} : Finset (DevRef τ sig)) from fun h => h1 (Finset.mem_singleton.mp h)),
    Function.update_of_ne h0]

theorem V3_lbl (d : Dev nD) : V3 m d a1' = m (lblLoc d) := by
  rw [V3_of_ne m d (by decide) (by decide), V2_of_ne m d (by decide) (by decide)]
theorem V3_cr (d : Dev nD) : V3 m d v20' = crF m d := by
  unfold V3
  rw [Function.update_of_ne (show v20' ≠ v21' by decide), Function.update_self]
theorem V3_d (d : Dev nD) : V3 m d v21' = dF m d := by
  unfold V3
  rw [Function.update_self]
theorem V7_arg0 (d : Dev nD) : V7 m d a0' = m ((SparseCore.T d).loc main_arg0) := by
  rw [V7_of_ne m d (by decide) (by decide), V5_of_ne m d (by decide) (by decide), V3_of_ne m d (by decide) (by decide), V2_of_ne m d (by decide) (by decide)]
theorem V7_arg1 (d : Dev nD) : V7 m d a1' = m (lblLoc d) := by
  rw [V7_of_ne m d (by decide) (by decide), V5_of_ne m d (by decide) (by decide), V3_lbl]

/-- Before the SparseCore call, -/
theorem held_V2 (d : Dev nD) : (held (T d) TS (V2 m d) : sProp 𝕄)
    = iprop((lblLoc d ↦{fullShare} m (lblLoc d)) ∗ (crLoc d ↦{fullShare} m (crLoc d)) ∗ (dLoc d ↦{fullShare} m (dLoc d))
        ∗ held (T d) ((((TS : Finset (DevRef τ sig)).erase a1').erase v20').erase v21') (V2 m d)) := by
  rw [held_sc, V2_of_ne m d (show a1' ≠ v0' by decide) (by decide), V2_of_ne m d (show v20' ≠ v0' by decide) (by decide),
    V2_of_ne m d (show v21' ≠ v0' by decide) (by decide)]

/-- and after it. -/
theorem held_V3 (d : Dev nD) : (held (T d) TS (V3 m d) : sProp 𝕄)
    = iprop((lblLoc d ↦{fullShare} m (lblLoc d)) ∗ (crLoc d ↦{fullShare} crF m d) ∗ (dLoc d ↦{fullShare} dF m d)
        ∗ held (T d) ((((TS : Finset (DevRef τ sig)).erase a1').erase v20').erase v21') (V2 m d)) := by
  rw [held_sc, V3_lbl, V3_cr, V3_d]
  congr 3

/-! ## A region, run inside @main -/

/-- A region's call in the kernel's own signature. -/
abbrev regProg (p : Fin 2) : Prog (TpuEff nD τ sig (Elt F) (ΛP (F := F)) .tc) PUnit := .op (.customCall (Pipeline.entry p) ()) fun _ => .ret ⟨⟩

theorem lift_reg (p : Fin 2) (d : Dev nD) (Q : PUnit → sProp 𝕄) :
    wp frame (wpE (D (F := F)) 𝒱 (T d) none) Set.univ (regProg (F := F) p) Q
      ⊢ wp frame (wpE ((K (F := F)).defs (D (F := F))) 𝒱 (T d) none) Set.univ (SparseCore.liftProg (regProg (F := F) p)) Q :=
  (K (F := F)).wp_liftProg (D (F := F)) 𝒱 (T d) Set.univ none (regProg (F := F) p) Q

set_option backward.isDefEq.respectTransparency.types false in
set_option maxHeartbeats 1000000 in
theorem run_reg [∀ e, Nonempty (Elt F e)] {p : Fin 2} (R : Pipeline.RegionSeg (pcfgs (F := F)) adm (pdats m) none (defs₀ (F := F)) 𝒱₀ (K (F := F)).L (K (F := F)).lev p)
    (d : Dev nD) (Q : PUnit → sProp 𝕄) :
    iprop((iprop(boundary (T d) ∗ R.post d) -∗ Q ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (Prog.lift (.customCall (SparseCore.inner (Pipeline.entry p)) ())) Q := by
  show _ ⊢ wp frame (wpE ((K (F := F)).defs (D (F := F))) 𝒱 (T d) none) Set.univ (SparseCore.liftProg (regProg (F := F) p)) Q
  refine BIBase.Entails.trans ?_ (lift_reg p d Q)
  have hv : ∀ u ∈ (none : Option (𝒱₀.lift).V), (𝒱₀.lift).lt (.inr ((Pipeline.pin (pcfgs (F := F)) adm p).tripCount + 1)) u :=
    fun u h => absurd h (Option.not_mem_none u)
  have h := Pipeline.RegionSeg.wp (pcfgs (F := F)) adm (pdats m) none phinj EP (defs₀ (F := F)) 𝒱₀ (K (F := F)).L (K (F := F)).lev R d none hv
    (fun _ => .ret ⟨⟩) Q
  refine BIBase.Entails.trans ?_ h
  iintro ⟨Hk, Hrest⟩
  isplitl [Hk]
  · iintro H
    rw [wp_ret]
    imodintro
    iapply Hk; iexact H
  iexact Hrest

theorem hOpT : (opT (F := F)).bufs ⊆ TS := show ({a0', v0'} : Finset (DevRef τ sig)) ⊆ TS by decide
theorem hOp3 : (op3 (F := F)).bufs ⊆ TS := show ({v20', v3'} : Finset (DevRef τ sig)) ⊆ TS by decide
theorem hOp4 : (op4 (F := F)).bufs ⊆ TS := show ({v21', v4'} : Finset (DevRef τ sig)) ⊆ TS by decide
theorem hOp6 : (op6 (F := F)).bufs ⊆ TS := show ({v5', v6'} : Finset (DevRef τ sig)) ⊆ TS by decide

/-- What @main leaves the claims: its arguments, its result, the barrier semaphores. -/
abbrev FIN (d : Dev nD) : sProp 𝕄 :=
  iprop(((SparseCore.T d).loc main_arg0 ↦{fullShare} m ((SparseCore.T d).loc main_arg0)) ∗ (lblLoc d ↦{fullShare} m (lblLoc d))
    ∗ ((SparseCore.T d).loc main_v6 ↦{fullShare} V7 m d v6') ∗ allBars (F := F) d)

theorem held_V7 (d : Dev nD) : (held (T d) TS ((op6 (F := F)).result (V6 m d)) : sProp 𝕄)
    ⊢ iprop(((SparseCore.T d).loc main_arg0 ↦{fullShare} m ((SparseCore.T d).loc main_arg0)) ∗ (lblLoc d ↦{fullShare} m (lblLoc d)) ∗ ((SparseCore.T d).loc main_v6 ↦{fullShare} V7 m d v6')) := by
  show (held (T d) TS (V7 m d) : sProp 𝕄) ⊢ _
  rw [held_end, V7_arg0, V7_arg1]
  iintro ⟨H0, H1, H2, -⟩
  isplitl [H0]; · iexact H0
  isplitl [H1]; · iexact H1
  iexact H2

theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} by decide, SparseCore.bigSep_insert' (by decide), bigSep_singleton]

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [G_eq, show (unscopedBufs d (fun b => m ((SparseCore.T d).loc b)) : sProp 𝕄) = held (T d) TS (V0 m d) from Pipeline.unscopedBufs_held d (V0 m d)]
  simp only [main, wp_bind, wp_pure]
  iintro ⟨#Hctx, Hst, ⟨Hb, Hheld, Hts, -⟩, ⟨HG0, HT0⟩, HG1, HT1⟩
  ihave #Hlev := (SparseCore.Cfg.ctx_levAts κ) $$ Hctx
  -- the transpose
  iapply (wp_hlo_within 𝒱 (T d) none Set.univ (op := opT) (S := TS) hOpT (V := V0 m d)) $$ [Hb Hheld]
  · isplitl [Hb] <;> iassumption
  iintro ⟨Hb, Hheld⟩
  rw [wp_ret]; imodintro
  -- the first region
  ihave Hst' := (Entails.of_eq (show (K (F := F)).tcSt EH d 0 = iprop(dues (F := F) d 0 ∗ _) from rfl)) $$ Hst
  icases Hst' with ⟨HO, Hst⟩
  iapply (run_reg m (reg0 m) d)
  isplitr [Hb Hheld HO HG0 HT0]
  rotate_left
  · isplitl [Hb]; · iexact Hb
    isplitl [Hheld HO]
    · iapply (Entails.of_eq (show iprop(held (T d) TS (V1 m d) ∗ dues (F := F) d 0) = (reg0 m).pre d from rfl))
      isplitl [Hheld]; · iexact Hheld
      iexact HO
    isplitr; · iexact Hlev
    isplitl [HG0]; · iexact HG0
    iexact HT0
  iintro ⟨Hb, Hpost⟩
  ihave Hpost' := (Entails.of_eq (show (reg0 m).post d = iprop(held (T d) TS (V2 m d) ∗ dues (F := F) d 0) from rfl)) $$ Hpost
  icases Hpost' with ⟨Hheld, HO⟩
  -- the SparseCore call
  ihave Hh := (Entails.of_eq (held_V2 m d)) $$ Hheld
  icases Hh with ⟨Hl, Hc, Hd, Hrest⟩
  iapply ((K (F := F)).wp_run (D (F := F)) 𝒱 (EH := EH) (P := P m) κ d 0)
  isplitr; · iexact Hctx
  isplitl [HO Hst]
  · iapply (Entails.of_eq (show (K (F := F)).tcSt EH d 0 = iprop(dues (F := F) d 0 ∗ _) from rfl).symm)
    isplitl [HO]; · iexact HO
    iexact Hst
  isplitl [Hl Hc Hd]
  · rw [st0_eq]
    isplitl [Hl]; · iexact Hl
    isplitl [Hc]; · iexact Hc
    iexact Hd
  iintro ⟨Hst, Hdn⟩
  ihave Hdn' := (Entails.of_eq (dn0_eq m d)) $$ Hdn
  icases Hdn' with ⟨⟨Hl, Hc, Hd⟩, Hbars⟩
  ihave Hheld := (Entails.of_eq (held_V3 m d).symm) $$ [Hl Hc Hd Hrest]
  · isplitl [Hl]; · iexact Hl
    isplitl [Hc]; · iexact Hc
    isplitl [Hd]; · iexact Hd
    iexact Hrest
  -- the two reshapes
  iapply (wp_hlo_within 𝒱 (T d) none Set.univ (op := op3) (S := TS) hOp3 (V := V3 m d)) $$ [Hb Hheld]
  · isplitl [Hb] <;> iassumption
  iintro ⟨Hb, Hheld⟩
  rw [wp_ret]; imodintro
  iapply (wp_hlo_within 𝒱 (T d) none Set.univ (op := op4) (S := TS) hOp4 (V := (op3 (F := F)).result (V3 m d))) $$ [Hb Hheld]
  · isplitl [Hb] <;> iassumption
  iintro ⟨Hb, Hheld⟩
  rw [wp_ret]; imodintro
  -- the last region
  ihave Hst' := (Entails.of_eq (show (K (F := F)).tcSt EH d ((0 : Fin 1).val + 1) = iprop(dues (F := F) d 1 ∗ _) from rfl)) $$ Hst
  icases Hst' with ⟨HO, Hst⟩
  iapply (run_reg m (reg2 m) d)
  isplitr [Hb Hheld HO HG1 HT1]
  rotate_left
  · isplitl [Hb]; · iexact Hb
    isplitl [Hheld HO]
    · iapply (Entails.of_eq (show iprop(held (T d) TS (V5 m d) ∗ dues (F := F) d 1) = (reg2 m).pre d from rfl))
      isplitl [Hheld]; · iexact Hheld
      iexact HO
    isplitr; · iexact Hlev
    isplitl [HG1]; · iexact HG1
    iexact HT1
  iintro ⟨Hb, Hpost⟩
  ihave Hpost' := (Entails.of_eq (show (reg2 m).post d = iprop(held (T d) TS (V6 m d) ∗ dues (F := F) d 1) from rfl)) $$ Hpost
  icases Hpost' with ⟨Hheld, HO⟩
  iapply (wp_hlo_within 𝒱 (T d) none Set.univ (op := op6) (S := TS) hOp6 (V := V6 m d)) $$ [Hb Hheld]
  · isplitl [Hb] <;> iassumption
  iintro ⟨Hb, Hheld⟩
  ihave Hh := (held_V7 m d) $$ Hheld
  icases Hh with ⟨H0, H1, H6⟩
  rw [wp_ret]; imodintro; imodintro
  isplitl [HO Hst]
  · iapply (Entails.of_eq (show (K (F := F)).tcSt EH d 1 = iprop(dues (F := F) d 1 ∗ _) from rfl).symm)
    isplitl [HO]; · iexact HO
    iexact Hst
  isplitr [Hb Hts]
  · isplitl [H0]; · iexact H0
    isplitl [H1]; · iexact H1
    isplitl [H6]; · iexact H6
    iexact Hbars
  isplitl [Hb] <;> iassumption

/-! ## What the final state says -/

def fq (d : Dev nD) (s' : Phys nD τ sig (Elt F)) : Prop :=
  (s'.mem.mem ((SparseCore.T d).loc main_arg0) = m ((SparseCore.T d).loc main_arg0) ∧ s'.mem.mem (lblLoc d) = m (lblLoc d) ∧ s'.mem.mem ((SparseCore.T d).loc main_v6) = V7 m d v6')
    ∧ ∀ (c : Fin ((K (F := F)).nCore 0)) (i : Fin 16), s'.mem.sem (bcell d (coreOf c) ((K (F := F)).sub 0 (Fin.cast nSub_zero.symm i))) = 0

theorem read_pts (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨H, HSI⟩
  ihave H := (SI_pointsTo_agree (st := s') (ℓ := ℓ) (I := Finset.univ) (q := fullShare) (f := f)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := fun x hx =>
  ⟨⟨((sep_mono_left sep_elim_left).trans (read_pts _ _ s')) x hx,
    ((sep_mono_left (sep_elim_right.trans sep_elim_left)).trans (read_pts _ _ s')) x hx,
    ((sep_mono_left (sep_elim_right.trans (sep_elim_right.trans sep_elim_left))).trans (read_pts _ _ s')) x hx⟩,
   fun c i => ((sep_mono_left (sep_elim_right.trans (sep_elim_right.trans (sep_elim_right.trans
      ((SparseCore.ent (bigSep_elim (Finset.mem_univ c))).trans (SparseCore.ent (bigSep_elim (Finset.mem_univ i)))))))).trans
      (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-! ## The program's run -/

def QC : PUnit × MemSt nD τ sig (Elt F) → Prop := fun r =>
  (∀ d : Dev nD, r.2.mem ((SparseCore.T d).loc main_arg0) = m ((SparseCore.T d).loc main_arg0) ∧ r.2.mem (lblLoc d) = m (lblLoc d) ∧ r.2.mem ((SparseCore.T d).loc main_v6) = V7 m d v6')
    ∧ r.2.sem = fun _ => 0

theorem run_main [∀ e, Nonempty (Elt F e)] (hl : Labels m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hl)
    (fun q _ => match q with | 0 => vecSplit m)
    m ρ main (G (F := F)) (FIN m) (u₀ (F := F)) (hu₀ m) (hmain m ρ) (fq m) (hfin m) (QC m) (fun _ h hz => ⟨fun d => (h d).1, hz⟩)

end Cert.Proof.Sc

end
-- ==== Proof.Same.lean ====
/-
  The program and its reading over the extended reals are one text: their body tables and their threads are equal.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

theorem cc0 : @Cert.Kernel.cc0__tc_body F _ _ = @Cert.KernelIdeal.cc0__tc_body F _ _ := rfl
theorem cc2 : @Cert.Kernel.cc2__fin_body F _ _ = @Cert.KernelIdeal.cc2__fin_body F _ _ := rfl
theorem cc1 : @Cert.Kernel.cc1__sc_body F _ _ = @Cert.KernelIdeal.cc1__sc_body F _ _ := rfl

theorem bodies : Cert.Kernel.defs₀ (F := F) = Cert.KernelIdeal.defs₀ (F := F) := by
  funext p ℓ a
  match p, ℓ, a with
  | .tc, 0, (t, s) => rfl
  | .scVector c s, 1, _ => rfl
  | .tc, 2, (t, s) => rfl
  | .tc, 1, _ => rfl
  | .scScalar _, 0, _ => rfl
  | .scScalar _, 1, _ => rfl
  | .scScalar _, 2, _ => rfl
  | .scVector _ _, 0, _ => rfl
  | .scVector _ _, 2, _ => rfl

theorem defs_eq : Cert.Kernel.defs (F := F) = Cert.KernelIdeal.defs (F := F) := by
  unfold Cert.Kernel.defs Cert.KernelIdeal.defs
  rw [bodies]
  rfl

theorem threads_eq : Cert.Kernel.threads (F := F) = Cert.KernelIdeal.threads (F := F) := rfl

end Cert.Proof.Same

end
-- ==== Proof.Frames.lean ====
/-
  The frames: each program runs, its arguments end unchanged, every semaphore counter ends at zero. What the
  precondition says of the labels.
-/
module

public import proofs.«01_k».proof.Proof.Main
public import proofs.«01_k».proof.Proof.Same
public import proofs.«01_k».proof.Proof.Gen.Kernel
public import proofs.«01_k».proof.Proof.Gen.ReferenceIdeal
public import proofs.«01_k».proof.Proof.Gen.ReferenceIdeal.Run
public import proofs.«01_k».proof.Proof.Gen.Pre_labels
public import Idealize.ShloMosaic.Lib.ReduceAll
public import Idealize.ShloMosaic.Lib.Affine

@[expose] public section

noncomputable section

namespace Cert.Proof

open Idealize.ShloMosaic Idealize.SL.Sem

variable {F : FTy → Type} [FloatOps F]

/-! ## The precondition -/

/-- The one-index shape of a scalar. -/
theorem scalar_sub (t : Shape) (h : t.rank = 0) : Subsingleton t.Idx :=
  ⟨fun a b => funext fun k => absurd k.isLt (by omega)⟩

/-- A word between 0 and 1000, read signed, is below 1000, read unsigned. -/
theorem word_lt (v : BitVec 32) (h1 : IntOp.cmpi .sge v 0#32 = 1#1) (h2 : IntOp.cmpi .slt v 1000#32 = 1#1) : v.toNat < 1000 := by
  have a1 : (0#32).sle v = true := by
    by_contra hc
    rw [Bool.not_eq_true] at hc
    exact absurd h1 (by show BitVec.ofBool ((0#32).sle v) ≠ 1#1; rw [hc]; decide)
  have a2 : v.slt 1000#32 = true := by
    by_contra hc
    rw [Bool.not_eq_true] at hc
    exact absurd h2 (by show BitVec.ofBool (v.slt 1000#32) ≠ 1#1; rw [hc]; decide)
  rw [BitVec.sle_eq_decide] at a1
  rw [BitVec.slt_eq_decide] at a2
  have b1 := of_decide_eq_true a1
  have b2 := of_decide_eq_true a2
  have e0 : (0#32 : BitVec 32).toInt = 0 := by decide
  have e1 : (1000#32 : BitVec 32).toInt = 1000 := by decide
  rw [e0] at b1
  rw [e1] at b2
  have e := v.isLt
  rw [BitVec.toInt_eq_toNat_cond] at b1 b2
  split at b1 <;> split at b2 <;> omega

theorem labels_of (x : FVec F Cert.Pre_labels.S16384x1000 .f32) (l : IVec Cert.Pre_labels.S16384 32)
    (h : Cert.Pre_labels.fn (F := F) x l = fun _ => 1#1) (i : Cert.Pre_labels.S16384.Idx) : (l i).toNat < 1000 := by
  haveI := scalar_sub Cert.Pre_labels.S_ rfl
  have e := Host.reduce_andi_all _ _ _ _ _ (congrFun h (Shape.Idx.first Cert.Pre_labels.Gen.h_S_)) i
  obtain ⟨e1, e2⟩ := IntOp.andi_eq_one.1 e
  exact word_lt _ e1 e2

/-! ## The frames -/

theorem frame_kernel : Cert.quiescent_Kernel := by
  intro m g hp
  have h := Sc.run_main (F := Bits) m g fun d i => labels_of _ _ (hp d) i
  rw [← Same.defs_eq] at h
  exact (θ_run Cert.Kernel.defs _ _).mono (fun r (hr : Sc.QC (F := Bits) m r) => ⟨fun c => ⟨(hr.1 c).1, (hr.1 c).2.1⟩, hr.2⟩) h

theorem frame_ideal : Cert.quiescent_KernelIdeal := fun m g hp =>
  (θ_run Cert.KernelIdeal.defs _ _).mono (fun _ h => ⟨fun c => ⟨(h.1 c).1, (h.1 c).2.1⟩, h.2⟩)
    (Sc.run_main (F := Ideal) m g fun d i => labels_of _ _ (hp d) i)

theorem frame_ref : Cert.quiescent_ReferenceIdeal := fun m g _ =>
  (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run m g)

end Cert.Proof

end
-- ==== Proof.Inputs.lean ====
/-
  The precondition of the value claim: what it says of the labels and the scores, and the frames under it.
-/
module

public import proofs.«01_k».proof.Proof.Frames
public import proofs.«01_k».proof.Proof.Gen.Pre_inputs

@[expose] public section

noncomputable section

namespace Cert.Proof

open Idealize.ShloMosaic Idealize.SL.Sem

variable {F : FTy → Type} [FloatOps F]

theorem inputs_of (x : FVec F Cert.Pre_inputs.S16384x1000 .f32) (l : IVec Cert.Pre_inputs.S16384 32)
    (h : Cert.Pre_inputs.fn (F := F) x l = fun _ => 1#1) :
    (∀ i, (l i).toNat < 1000) ∧ ∀ j, cmpf .olt (Host.absf x) (fun _ => FloatOps.ofBits .f32 0x7F800000#32) j = 1#1 := by
  haveI := scalar_sub Cert.Pre_inputs.S_ rfl
  obtain ⟨h1, h2⟩ := IntOp.andi_eq_one.1 (congrFun h (Shape.Idx.first Cert.Pre_inputs.Gen.h_S_))
  refine ⟨fun i => ?_, fun j => ?_⟩
  · obtain ⟨e1, e2⟩ := IntOp.andi_eq_one.1 (Host.reduce_andi_all _ _ _ _ _ h1 i)
    exact word_lt _ e1 e2
  · exact Host.reduce_andi_all _ _ _ _ _ h2 j

theorem frame_ideal_inputs : Cert.quiescent_KernelIdeal_pre_inputs := fun m g hp =>
  (θ_run Cert.KernelIdeal.defs _ _).mono (fun _ h => ⟨fun c => ⟨(h.1 c).1, (h.1 c).2.1⟩, h.2⟩)
    (Sc.run_main (F := Ideal) m g fun d i => (inputs_of _ _ (hp d)).1 i)

theorem frame_ref_inputs : Cert.quiescent_ReferenceIdeal_pre_inputs := fun m g _ => frame_ref m g trivial

end Cert.Proof

end
-- ==== Proof.Arith.lean ====
/-
  The mathematics of the loss, apart from any program: extended reals that are real numbers, a row's loss, the number of
  positions with a label, and the two ways to write the weighted mean.
-/
module

public import Idealize.ShloMosaic.PureOps.Ideal.Laws

@[expose] public section

noncomputable section

namespace Cert.Proof.Val

open Idealize.ShloMosaic

/-! ## Extended reals that are real numbers -/

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem exp_real (x : ℝ) : Ideal.exp (x : EReal) = ((Real.exp x : ℝ) : EReal) := rfl

theorem log_real (x : ℝ) (h : 0 < x) : Ideal.log (x : EReal) = ((Real.log x : ℝ) : EReal) := by
  show (if x ≤ 0 then (⊥ : EReal) else ((Real.log x : ℝ) : EReal)) = _
  rw [if_neg (not_le.mpr h)]

theorem sum_real {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The greatest of finitely many real numbers, at least one, taken from `⊥` is a real number. -/
theorem fold_max_real {ι : Type} (s : Finset ι) (f : ι → ℝ) (h : s.Nonempty) :
    ∃ M : ℝ, s.fold max (⊥ : EReal) (fun i => (f i : EReal)) = (M : EReal) := by
  classical
  induction h using Finset.Nonempty.cons_induction with
  | singleton a => exact ⟨f a, by rw [Finset.fold_singleton]; exact max_eq_left bot_le⟩
  | cons a s ha hs ih =>
    obtain ⟨M, hM⟩ := ih
    exact ⟨max (f a) M, by rw [Finset.fold_cons, hM]; exact (EReal.coe_strictMono.monotone.map_max).symm⟩

theorem one_bits : Ideal.ofBits .f32 0x3F800000#32 = ((1 : ℝ) : EReal) := by
  simp only [Ideal.ofBits, Ideal.ieee]
  simp
  rw [← EReal.coe_one, ← EReal.coe_mul]
  norm_num
theorem bot_bits : Ideal.ofBits .f32 0xFF800000#32 = ⊥ := by simp [Ideal.ofBits, Ideal.ieee]
theorem top_bits : Ideal.ofBits .f32 0x7F800000#32 = ⊤ := by simp [Ideal.ofBits, Ideal.ieee]

/-- A number whose absolute value is below `⊤` is real. -/
theorem real_of_abs {x : EReal} (h : max x (-x) < ⊤) : ∃ r : ℝ, x = (r : EReal) := by
  induction x with
  | bot => simp at h
  | top => simp at h
  | coe r => exact ⟨r, rfl⟩

/-! ## A row's loss -/

variable {κ : Type} [Fintype κ]

theorem sum_exp_pos [Nonempty κ] (s : κ → ℝ) (M : ℝ) : 0 < ∑ k, Real.exp (s k - M) :=
  Finset.sum_pos (fun _ _ => Real.exp_pos _) Finset.univ_nonempty

/-- The logarithm of the sum of exponentials does not depend on what is taken off first. -/
theorem log_sum_shift [Nonempty κ] (s : κ → ℝ) (M : ℝ) : M + Real.log (∑ k, Real.exp (s k - M)) = Real.log (∑ k, Real.exp (s k)) := by
  have e : (∑ k, Real.exp (s k)) = Real.exp M * ∑ k, Real.exp (s k - M) := by
    rw [Finset.mul_sum]
    exact Finset.sum_congr rfl fun k _ => by rw [← Real.exp_add]; congr 1; ring
  rw [e, Real.log_mul (Real.exp_pos M).ne' (sum_exp_pos s M).ne', Real.log_exp]

/-- The loss of a row of scores at a label. -/
def loss (s : κ → ℝ) (l : κ) : ℝ := Real.log (∑ k, Real.exp (s k)) - s l

/-- As the kernel writes it. -/
theorem loss_kernel [Nonempty κ] (s : κ → ℝ) (l : κ) (M : ℝ) :
    ((M : EReal) + Ideal.log (∑ k, Ideal.exp ((s k : EReal) - (M : EReal)))) - (s l : EReal) = ((loss s l : ℝ) : EReal) := by
  simp only [← EReal.coe_sub, exp_real, sum_real]
  rw [log_real _ (sum_exp_pos s M), ← EReal.coe_add, ← EReal.coe_sub, log_sum_shift]
  rfl

/-- As the reference writes it. -/
theorem loss_reference [Nonempty κ] (s : κ → ℝ) (l : κ) (M : ℝ) :
    -(((s l : EReal) - (M : EReal)) - Ideal.log (∑ k, Ideal.exp ((s k : EReal) - (M : EReal)))) = ((loss s l : ℝ) : EReal) := by
  simp only [← EReal.coe_sub, exp_real, sum_real]
  rw [log_real _ (sum_exp_pos s M), ← EReal.coe_sub, ← EReal.coe_neg]
  congr 1
  unfold loss
  rw [← log_sum_shift s M]
  ring

/-! ## How many positions have a label -/

variable {ι : Type} [Fintype ι]

/-- The number of positions whose label is `v`. -/
def num (l : ι → ℕ) (v : ℕ) : ℕ := (Finset.univ.filter fun i => l i = v).card

theorem num_pos (l : ι → ℕ) (i : ι) : 0 < num l (l i) := Finset.card_pos.mpr ⟨i, by simp⟩

/-- Each position weighted by one over the number of its label: as many as there are labels present. -/
theorem sum_inv_num (l : ι → ℕ) (B : ℕ) (h : ∀ i, l i < B) :
    (∑ i, 1 / (num l (l i) : ℝ)) = ∑ v ∈ Finset.range B, if 0 < num l v then (1 : ℝ) else 0 := by
  rw [← Finset.sum_fiberwise_of_maps_to (s := Finset.univ) (t := Finset.range B) (g := l) (fun i _ => Finset.mem_range.mpr (h i))]
  refine Finset.sum_congr rfl fun v _ => ?_
  rw [Finset.sum_congr rfl (g := fun _ => 1 / (num l v : ℝ)) fun i hi => by rw [(Finset.mem_filter.mp hi).2], Finset.sum_const]
  change num l v • (1 / (num l v : ℝ)) = _
  rw [nsmul_eq_mul]
  by_cases hv : 0 < num l v
  · rw [if_pos hv]
    have : (num l v : ℝ) ≠ 0 := by exact_mod_cast hv.ne'
    field_simp
  · rw [if_neg hv, Nat.le_zero.mp (not_lt.mp hv)]; simp

theorem sum_inv_pos [Nonempty ι] (l : ι → ℕ) : 0 < ∑ i, 1 / (num l (l i) : ℝ) :=
  Finset.sum_pos (fun i _ => one_div_pos.mpr (by exact_mod_cast num_pos l i)) Finset.univ_nonempty

/-- The weights scaled, the mean is the same. -/
theorem mean_scaled (l : ι → ℕ) (r : ι → ℝ) (c : ℝ) (hc : c ≠ 0) :
    (∑ i, r i / (num l (l i) : ℝ)) / (∑ i, 1 / (num l (l i) : ℝ))
      = (∑ i, c / (num l (l i) : ℝ) * r i) / ∑ i, c / (num l (l i) : ℝ) := by
  have e1 : (∑ i, c / (num l (l i) : ℝ) * r i) = c * ∑ i, r i / (num l (l i) : ℝ) := by
    rw [Finset.mul_sum]; exact Finset.sum_congr rfl fun i _ => by ring
  have e2 : (∑ i, c / (num l (l i) : ℝ)) = c * ∑ i, 1 / (num l (l i) : ℝ) := by
    rw [Finset.mul_sum]; exact Finset.sum_congr rfl fun i _ => by ring
  rw [e1, e2, mul_div_mul_left _ _ hc]

end Cert.Proof.Val
-- ==== Proof.Counts.lean ====
/-
  What the SparseCore call counts, over the extended reals: a bin is the number of positions with its label, and the
  sixteen sums add up to the number of labels present.
-/
module

public import proofs.«01_k».proof.Proof.Setup
public import proofs.«01_k».proof.Proof.Arith
public import Idealize.ShloMosaic.Lib.Routing.Ops
public import Idealize.ShloMosaic.Lib.ValueIdxRank1

@[expose] public section

noncomputable section

namespace Cert.Proof.Val

open Cert.KernelIdeal Cert.KernelIdeal.Gen Cert.Proof.Sc
open Idealize.ShloMosaic Idealize.ShloMosaic.ValueIdx

/-- A count as an extended real. -/
abbrev nat (n : ℕ) : EReal := ((n : ℝ) : EReal)

theorem nat_add (a b : ℕ) : nat (a + b) = nat a + nat b := by
  unfold nat; rw [Nat.cast_add, EReal.coe_add]

/-- Steps that add one at `j` or leave it, taken one after another. -/
theorem adds_at {K : Type} (step : Vec Ideal S1024 .f32 → K → Vec Ideal S1024 .f32) (hit : K → Bool) (j : S1024.Idx)
    (hs : ∀ r k, step r k j = if hit k = true then r j + nat 1 else r j) (l : List K) (f : Vec Ideal S1024 .f32) :
    l.foldl step f j = f j + nat (l.countP hit) := by
  induction l generalizing f with
  | nil => simp [nat]
  | cons k l ih =>
    rw [List.foldl_cons, ih, List.countP_cons, hs]
    by_cases hk : hit k = true
    · rw [if_pos hk, if_pos hk, nat_add, add_assoc, add_comm (nat 1)]
    · rw [if_neg hk, if_neg hk, Nat.add_zero]

/-- One group of labels added to the bins. -/
theorem add_group (f : Vec Ideal S1024 .f32) (g : IVec S16 32)
    (h : ∀ (a : Fin S1024.rank) (x : S16.Idx), ((![g] : Fin 1 → IVec S16 32) a x).toNat < S1024.size a) (j : S1024.Idx) :
    storeIdx (F := Ideal) (s := S1024) f ![g] (k1_pay6 (F := Ideal) fun _ => (Scalar.ofBits .f32 0x3F800000#32 : Ideal .f32)) (fun _ => 1#1) true h j
      = f j + nat ((List.finRange 16).countP fun k => decide ((g (Shape.ofLane k)).toNat = (j 0).val)) := by
  refine adds_at _ (fun k : Fin 16 => decide ((g (Shape.ofLane k)).toNat = (j 0).val)) j (fun r k => ?_) (List.finRange 16) f
  refine (congrFun (if_pos rfl) j).trans ?_
  by_cases hk : (g (Shape.ofLane k)).toNat = (j 0).val
  · have hj : ∀ a, (j a).val = (idxAt (s := S1024) ![g] h (Shape.ofLane k) a).val := fun a => by
      obtain rfl : a = 0 := Subsingleton.elim _ _
      exact hk.symm
    have hij : idxAt (s := S1024) ![g] h (Shape.ofLane k) = j := funext fun a => Fin.ext (hj a).symm
    refine (if_pos hj).trans ?_
    rw [if_pos (decide_eq_true hk)]
    show r (idxAt (s := S1024) ![g] h (Shape.ofLane k)) + shapeCast S16 (fun _ => Ideal.ofBits .f32 0x3F800000#32) shapeCasts_S16_S16 (Shape.ofLane k) = _
    rw [hij, shapeCast_self, one_bits]
    simp [nat]
  · refine (if_neg fun e => hk (e 0).symm).trans ?_
    rw [if_neg (by simpa using hk)]

variable (lbl : S16384.Idx → BitVec 32)

/-- The labels as numbers. -/
abbrev lab (i : S16384.Idx) : ℕ := (lbl i).toNat

/-- A bin after `n` groups: the positions among the first `16 n` with its label. -/
theorem Hg_count (hl : ∀ i, lab lbl i < 1000) (n : ℕ) (j : S1024.Idx) :
    Hg (F := Ideal) lbl n j = nat (Nat.count (fun p => lab lbl (ix p) = (j 0).val) (16 * n)) := by
  induction n with
  | zero =>
    show Ideal.ofBits .f32 0x00000000#32 = _
    rw [Ideal.ofBits_zero_f32]; simp [nat]
  | succ n ih =>
    have h : ∀ (a : Fin S1024.rank) (x : S16.Idx), ((![grp lbl n] : Fin 1 → IVec S16 32) a x).toNat < S1024.size a := fun a x => by
      obtain rfl : a = 0 := Subsingleton.elim _ _
      exact (hl _).trans (by decide)
    unfold Hg
    rw [dif_pos h, add_group, ih, ← nat_add, Nat.mul_succ, Nat.count_add,
      ← Routing.countP_finRange 16 (fun k => lab lbl (ix (16 * n + k)) = (j 0).val)]
    rfl

theorem ix_inj (i : S16384.Idx) : ix (i 0).val = i := funext fun a => by
  obtain rfl : a = 0 := Subsingleton.elim _ _
  exact Fin.ext (Nat.mod_eq_of_lt (i 0).isLt)

theorem count_num (v : ℕ) : Nat.count (fun p => lab lbl (ix p) = v) 16384 = num (lab lbl) v := by
  rw [Nat.count_eq_card_filter_range]
  refine Finset.card_bij' (fun p _ => ix p) (fun i _ => (i 0).val) (fun p hp => ?_) (fun i hi => ?_) (fun p hp => ?_) (fun i _ => ix_inj i)
  · exact Finset.mem_filter.mpr ⟨Finset.mem_univ _, (Finset.mem_filter.mp hp).2⟩
  · refine Finset.mem_filter.mpr ⟨Finset.mem_range.mpr (i 0).isLt, ?_⟩
    rw [ix_inj]; exact (Finset.mem_filter.mp hi).2
  · exact Nat.mod_eq_of_lt (Finset.mem_range.mp (Finset.mem_filter.mp hp).1)

/-- A bin after all the turns. -/
theorem Ht_num (hl : ∀ i, lab lbl i < 1000) (j : S1024.Idx) : Ht (F := Ideal) lbl 16 j = nat (num (lab lbl) (j 0).val) := by
  show Hg (F := Ideal) lbl (64 * 16) j = _
  rw [Hg_count lbl hl, ← count_num]

/-- What the call writes for a position: how many have its label. -/
theorem cntF_num (hl : ∀ i, lab lbl i < 1000) (i : S16384.Idx) : cntF (F := Ideal) lbl i = nat (num (lab lbl) (lab lbl i)) := by
  show Ht (F := Ideal) lbl 16 (bin (lbl i)) = _
  rw [Ht_num lbl hl]
  congr 2
  exact Nat.mod_eq_of_lt ((hl i).trans (by decide))

theorem here_bit (c : ℕ) : Scalar.select (Ideal.cmp .ogt (nat c) 0) ((1 : ℝ) : EReal) 0 = ((if 0 < c then (1 : ℝ) else 0 : ℝ) : EReal) := by
  by_cases hp : 0 < c
  · have : (0 : EReal) < nat c := by unfold nat; exact_mod_cast hp
    simp [Ideal.cmp, this, hp, Scalar.select]
  · have : ¬ (0 : EReal) < nat c := by unfold nat; exact_mod_cast hp
    simp [Ideal.cmp, this, hp, Scalar.select]

/-- A bin's contribution to the number of labels present. -/
abbrev here (v : ℕ) : EReal := ((if 0 < num (lab lbl) v then (1 : ℝ) else 0 : ℝ) : EReal)

theorem pres_sum (hl : ∀ i, lab lbl i < 1000) (n : ℕ) (hn : n ≤ 64) (x : S16.Idx) :
    pres (F := Ideal) (Ht lbl 16) n x = ∑ g ∈ Finset.range n, here lbl (16 * g + (x 0).val) := by
  induction n with
  | zero => show Ideal.ofBits .f32 0x00000000#32 = _; rw [Ideal.ofBits_zero_f32]; simp
  | succ n ih =>
    rw [Finset.sum_range_succ, ← ih (by omega)]
    show pres (F := Ideal) (Ht lbl 16) n x
      + Scalar.select (Ideal.cmp .ogt (shapeCast S16 (binGrp (Ht (F := Ideal) lbl 16) n) shapeCasts_S16_S16 x) (Ideal.ofBits .f32 0x00000000#32))
        (Ideal.ofBits .f32 0x3F800000#32) (Ideal.ofBits .f32 0x00000000#32) = _
    congr 1
    rw [shapeCast_self, Ideal.ofBits_zero_f32, one_bits]
    unfold binGrp
    rw [Ht_num lbl hl]
    have hx : (x 0).val < 16 := (x 0).isLt
    have e : (16 * n + (x 0).val) % 1024 = 16 * n + (x 0).val := Nat.mod_eq_of_lt (by omega)
    simp only [e]
    unfold here
    generalize num (lab lbl) (16 * n + (x 0).val) = c
    exact here_bit c

/-- The sixteen sums together: the number of labels present. -/
theorem presF_total (hl : ∀ i, lab lbl i < 1000) :
    (∑ k : Fin 16, presF (F := Ideal) lbl (ix1 k)) = ((∑ v ∈ Finset.range 1024, if 0 < num (lab lbl) v then (1 : ℝ) else 0 : ℝ) : EReal) := by
  have h : ∀ k : Fin 16, presF (F := Ideal) lbl (ix1 k) = ∑ g ∈ Finset.range 64, here lbl (16 * g + k.val) := fun k => by
    show shapeCast S16 (pres (F := Ideal) (Ht lbl 16) 64) shapeCasts_S16_S16 (ix1 k) = _
    rw [shapeCast_self, pres_sum lbl hl 64 le_rfl]
  rw [Finset.sum_congr rfl fun k _ => h k, Finset.sum_comm]
  have step : ∀ n, (∑ g ∈ Finset.range n, ∑ k : Fin 16, here lbl (16 * g + k.val)) = ∑ v ∈ Finset.range (16 * n), here lbl v := fun n => by
    induction n with
    | zero => simp
    | succ n ih =>
      rw [Finset.sum_range_succ, ih, Nat.mul_succ, Finset.sum_range_add, Finset.sum_range (fun k => here lbl (16 * n + k))]
  rw [step 64, sum_real]

end Cert.Proof.Val
-- ==== Proof.Pay.lean ====
/-
  What the two TensorCore kernels compute, over the extended reals, from the values they read.
-/
module

public import proofs.«01_k».proof.Proof.Gen.KernelIdeal.Skeleton
public import proofs.«01_k».proof.Proof.Arith
public import Idealize.ShloMosaic.Lib.Pipeline.ValueKit

@[expose] public section

set_option maxRecDepth 16384

noncomputable section

namespace Cert.Proof.Val

open Cert.KernelIdeal Cert.KernelIdeal.Gen
open Idealize.ShloMosaic

/-- The first kernel at a column: the loss of the column's scores at its label. -/
theorem pay0 (s : Vec Ideal S1000x2048 .f32) (l : Vec Ideal S2048 .i32) (y : S1x2048.Idx) (r : Fin 1000 → ℝ)
    (hs : ∀ k : Fin 1000, s (Idealize.ShloMosaic.ix2 k (y 1)) = (r k : EReal)) (v : Fin 1000)
    (hv : (l (Idealize.ShloMosaic.ix1 (y 1))).toNat = v.val) :
    k0_pay1 (F := Ideal) s l y = ((loss r v : ℝ) : EReal) := by
  pointwise [k0_pay1]
  simp only [hs]
  rw [bot_bits]
  obtain ⟨M, hM⟩ := fold_max_real (Finset.univ : Finset (Fin 1000)) r Finset.univ_nonempty
  rw [hM, ← loss_kernel r v M]
  congr 1
  rw [Finset.sum_eq_single v]
  · have e : BitVec.ofNat 32 v.val = l (Idealize.ShloMosaic.ix1 (y 1)) :=
      BitVec.eq_of_toNat_eq (by rw [hv, BitVec.toNat_ofNat]; exact Nat.mod_eq_of_lt (by have := v.isLt; omega))
    rw [e]
    simp [IntOp.cmpi, Scalar.select]
  · intro k _ hk
    have e : BitVec.ofNat 32 k.val ≠ l (Idealize.ShloMosaic.ix1 (y 1)) := fun e => hk (Fin.ext (by
      have e' := congrArg BitVec.toNat e
      rw [hv, BitVec.toNat_ofNat, Nat.mod_eq_of_lt (by have := k.isLt; omega)] at e'
      exact e'))
    simp [IntOp.cmpi, Scalar.select, beq_eq_false_iff_ne.mpr e]
  · intro h; exact absurd (Finset.mem_univ v) h

/-- The last kernel: the losses over the counts, summed, over the sixteen numbers' sum. -/
theorem pay2 (a b : Vec Ideal S1x16384 .f32) (c : Vec Ideal S1x16 .f32) (y : S1x1.Idx) :
    k2_pay1 (F := Ideal) a b c y
      = Ideal.div (∑ i : Fin 16384, Ideal.div (a (Idealize.ShloMosaic.ix2 0 i)) (b (Idealize.ShloMosaic.ix2 0 i)))
          (∑ k : Fin 16, c (Idealize.ShloMosaic.ix2 0 k)) := by
  pointwise [k2_pay1]
  rw [Fin.sum_univ_one, Fin.sum_univ_one]

end Cert.Proof.Val
-- ==== Proof.KVal.lean ====
/-
  What the program leaves, over the extended reals, when the labels are in range and the scores are real numbers.
-/
module

public import proofs.«01_k».proof.Proof.Main
public import proofs.«01_k».proof.Proof.Counts
public import proofs.«01_k».proof.Proof.Pay

@[expose] public section

set_option maxRecDepth 16384

noncomputable section

namespace Cert.Proof.Val

open Cert.KernelIdeal Cert.KernelIdeal.Gen Cert.Proof.Sc
open Idealize.ShloMosaic Idealize.ShloMosaic.TcCoe Idealize.SL.Sem

variable (m : (ℓ : Loc nD τ sig) → Buf (Elt Ideal) ℓ) (d : Dev nD)

/-- The scores. -/
abbrev scores : S16384x1000.Idx → EReal := m ((SparseCore.T d).loc main_arg0)

theorem V1_v0 : V1 (F := Ideal) m d v0' = (transpose S1000x16384 [1, 0] (scores m d) transposes_S16384x1000_S1000x16384_1_0 : S1000x16384.Idx → EReal) := by
  unfold V1
  exact StableHlo.unary_result _ _ _ _ _ _

theorem V1_a1 : V1 (F := Ideal) m d a1' = (lblB m d : S16384.Idx → BitVec 32) := by
  unfold V1
  rw [(opT (F := Ideal)).result_of_not_mem _ (show a1' ∉ ({v0'} : Finset (DevRef τ sig)) from fun h => absurd (Finset.mem_singleton.mp h) (by decide))]
  rfl

theorem idx0 : ∀ t : Fin cfg0.N, win0_0.index t = ![t.val] ∧ win0_1.index t = ![0, t.val] ∧ win0_2.index t = ![0, t.val] :=
  (by decide +kernel : ∀ t : Fin grid0.N, _)

theorem transpose_at (x : S16384x1000.Idx → EReal) (j : S1000x16384.Idx) :
    (transpose S1000x16384 [1, 0] x transposes_S16384x1000_S1000x16384_1_0 : S1000x16384.Idx → EReal) j = x (Idealize.ShloMosaic.ix2 (j 1) (j 0)) := by
  pointwise []

theorem row_at (x : S16384.Idx → EReal) (j : S1x16384.Idx) :
    (shapeCast S1x16384 x shapeCasts_S16384_S1x16384 : S1x16384.Idx → EReal) j = x (Idealize.ShloMosaic.ix1 (j 1)) := by
  pointwise []
theorem row_at' (x : S16.Idx → EReal) (j : S1x16.Idx) :
    (shapeCast S1x16 x shapeCasts_S16_S1x16 : S1x16.Idx → EReal) j = x (Idealize.ShloMosaic.ix1 (j 1)) := by
  pointwise []

theorem idx2 : ∀ t : Fin cfg2.N, win2_0.index t = ![0, 0] ∧ win2_1.index t = ![0, 0] ∧ win2_2.index t = ![0, 0] :=
  (by decide +kernel : ∀ t : Fin grid2.N, _)

theorem same1 {n : ℕ} (a : Fin n) : Idealize.ShloMosaic.ix1 a = ValueIdx.ix1 a := funext fun i => by
  match i with
  | ⟨0, _⟩ => rfl
theorem same2 {n k : ℕ} (a : Fin n) (b : Fin k) : Idealize.ShloMosaic.ix2 a b = ValueIdx.ix2 a b := funext fun i => by
  match i with
  | ⟨0, _⟩ => rfl
  | ⟨1, _⟩ => rfl

/-- A column of a scores' block is a row of the scores, -/
theorem sblk_at (t : Fin cfg0.N) (k : Fin 1000) (y : S1x2048.Idx) :
    sblk (F := Ideal) m d t (Idealize.ShloMosaic.ix2 k (y 1)) = scores m d (ValueIdx.ix2 ((win0_2.blk t).view.emb y 1) k) := by
  blk_simp [sblk]
  rw [V1_v0]
  refine (transpose_at _ _).trans (congrArg (scores m d) (Eq.trans ?_ (same2 _ _)))
  blk_ext [idx0 t]

/-- and a labels' block's element the label of that row. -/
theorem lblk_at (t : Fin cfg0.N) (y : S1x2048.Idx) :
    lblk (F := Ideal) m d t (Idealize.ShloMosaic.ix1 (y 1)) = lblB m d (ValueIdx.ix1 ((win0_2.blk t).view.emb y 1)) := by
  blk_simp [lblk]
  rw [V1_a1]
  refine congrArg (lblB m d) (Eq.trans ?_ (same1 _))
  blk_ext [idx0 t]

theorem V5_v1 : V5 (F := Ideal) m d v1' = nllA m d := by
  rw [V5_of_ne m d (by decide) (by decide), V3_of_ne m d (by decide) (by decide)]
  exact Function.update_self (f := V1 m d) v1' (nllA m d)

theorem op3_at (W : Valuation τ sig (Elt Ideal)) (x : S16384.Idx → EReal) (h : W v20' = x) :
    (op3 (F := Ideal)).result W v3' = (shapeCast S1x16384 x shapeCasts_S16384_S1x16384 : S1x16384.Idx → EReal) := by
  subst h
  exact StableHlo.reshape_result (Val := Elt Ideal) main_v2_0 main_v3 _ _ _ _ W

theorem op4_at (W : Valuation τ sig (Elt Ideal)) (x : S16.Idx → EReal) (h : W v21' = x) :
    (op4 (F := Ideal)).result W v4' = (shapeCast S1x16 x shapeCasts_S16_S1x16 : S1x16.Idx → EReal) := by
  subst h
  exact StableHlo.reshape_result (Val := Elt Ideal) main_v2_1 main_v4 _ _ _ _ W

theorem op6_at (W : Valuation τ sig (Elt Ideal)) (x : S1x1.Idx → EReal) (h : W v5' = x) :
    (op6 (F := Ideal)).result W v6' = (shapeCast S_ x shapeCasts_S1x1_S_ : S_.Idx → EReal) := by
  subst h
  exact StableHlo.reshape_result (Val := Elt Ideal) main_v5 main_v6 _ _ _ _ W

theorem V5_v3 : V5 (F := Ideal) m d v3' = (shapeCast S1x16384 (cntF (F := Ideal) (lblB m d)) shapeCasts_S16384_S1x16384 : S1x16384.Idx → EReal) := by
  unfold V5
  rw [(op4 (F := Ideal)).result_of_not_mem _ (show v3' ∉ ({v4'} : Finset (DevRef τ sig)) from fun h => absurd (Finset.mem_singleton.mp h) (by decide))]
  exact op3_at _ _ (V3_cr m d)

theorem V5_v4 : V5 (F := Ideal) m d v4' = (shapeCast S1x16 (presF (F := Ideal) (lblB m d)) shapeCasts_S16_S1x16 : S1x16.Idx → EReal) := by
  unfold V5
  refine op4_at _ _ ?_
  rw [(op3 (F := Ideal)).result_of_not_mem _ (show v21' ∉ ({v3'} : Finset (DevRef τ sig)) from fun h => absurd (Finset.mem_singleton.mp h) (by decide))]
  exact V3_d m d

theorem xblk_at (j : S1x16384.Idx) : xblk (F := Ideal) m d t2_0 j = nllA m d j := by
  blk_simp [xblk]
  rw [V5_v1]
  refine congrArg (nllA (F := Ideal) m d) ?_
  blk_ext [idx2 t2_0]

theorem yblk_at (p : Fin 16384) : yblk (F := Ideal) m d t2_0 (Idealize.ShloMosaic.ix2 0 p) = cntF (F := Ideal) (lblB m d) (ValueIdx.ix1 p) := by
  blk_simp [yblk]
  rw [V5_v3]
  refine (row_at _ _).trans (congrArg (cntF (F := Ideal) (lblB m d)) ?_)
  blk_ext [idx2 t2_0]

theorem zblk_at (k : Fin 16) : zblk (F := Ideal) m d t2_0 (Idealize.ShloMosaic.ix2 0 k) = presF (F := Ideal) (lblB m d) (ValueIdx.ix1 k) := by
  blk_simp [zblk]
  rw [V5_v4]
  refine (row_at' _ _).trans (congrArg (presF (F := Ideal) (lblB m d)) ?_)
  blk_ext [idx2 t2_0]

variable (hl : ∀ i, lab (lblB m d) i < 1000)
variable (r : Fin 16384 → Fin 1000 → ℝ) (hr : ∀ p k, scores m d (ValueIdx.ix2 p k) = (r p k : EReal))
include hr

/-- The losses. -/
theorem nllA_at (j : S1x16384.Idx) :
    nllA (F := Ideal) m d j = ((loss (r (j 1)) ⟨lab (lblB m d) (ValueIdx.ix1 (j 1)), hl _⟩ : ℝ) : EReal) := by
  have h : nllA (F := Ideal) m d
      = (fun j : S1x16384.Idx => ((loss (r (j 1)) ⟨lab (lblB m d) (ValueIdx.ix1 (j 1)), hl _⟩ : ℝ) : EReal)) := by
    unfold nllA
    refine (dat0 (F := Ideal) m d).arrAt_eq_of_covers 2 _ (by decide +kernel) (fun t hf y => ?_)
    blk_simp
    show k0_pay1 (F := Ideal) (sblk m d t) (lblk m d t) _ = _
    refine pay0 _ _ _ _ (fun k => (sblk_at m d t k y).trans (hr _ _)) _ ?_
    exact congrArg (BitVec.toNat (w := 32)) (lblk_at m d t y)
  exact congrFun h j

/-- The number left, before the last reshape. -/
theorem outA_at (j : S1x1.Idx) :
    outA (F := Ideal) m d j = Ideal.div
      (∑ p : Fin 16384, Ideal.div ((loss (r p) ⟨lab (lblB m d) (ValueIdx.ix1 p), hl _⟩ : ℝ) : EReal) (cntF (F := Ideal) (lblB m d) (ValueIdx.ix1 p)))
      (∑ k : Fin 16, presF (F := Ideal) (lblB m d) (ValueIdx.ix1 k)) := by
  have h : outA (F := Ideal) m d = (fun j : S1x1.Idx => Ideal.div
      (∑ p : Fin 16384, Ideal.div ((loss (r p) ⟨lab (lblB m d) (ValueIdx.ix1 p), hl _⟩ : ℝ) : EReal) (cntF (F := Ideal) (lblB m d) (ValueIdx.ix1 p)))
      (∑ k : Fin 16, presF (F := Ideal) (lblB m d) (ValueIdx.ix1 k))) := by
    unfold outA
    refine (dat2 (F := Ideal) m d).arrAt_eq_of_after_last 3 t2_0 (by decide +kernel) _ fun j => ?_
    blk_simp
    show k2_pay1 (F := Ideal) (xblk m d t2_0) (yblk m d t2_0) (zblk m d t2_0) _ = _
    rw [pay2]
    refine congrArg₂ Ideal.div (Finset.sum_congr rfl fun p _ => congrArg₂ Ideal.div ?_ ?_) (Finset.sum_congr rfl fun k _ => ?_)
    · exact (xblk_at m d _).trans (nllA_at m d hl r hr _)
    · exact yblk_at m d p
    · exact zblk_at m d k
  exact congrFun h j

/-- The number left. -/
theorem V7_v6 (j : S_.Idx) :
    (show S_.Idx → EReal from V7 (F := Ideal) m d v6') j = Ideal.div
      (∑ p : Fin 16384, Ideal.div ((loss (r p) ⟨lab (lblB m d) (ValueIdx.ix1 p), hl _⟩ : ℝ) : EReal) (cntF (F := Ideal) (lblB m d) (ValueIdx.ix1 p)))
      (∑ k : Fin 16, presF (F := Ideal) (lblB m d) (ValueIdx.ix1 k)) := by
  have h : V7 (F := Ideal) m d v6' = (shapeCast S_ (outA (F := Ideal) m d) shapeCasts_S1x1_S_ : S_.Idx → EReal) := by
    unfold V7 V6
    exact op6_at _ _ (Function.update_self (f := V5 m d) v5' (outA m d))
  exact (congrFun h j).trans (outA_at m d hl r hr _)

end Cert.Proof.Val
-- ==== Proof.Words.lean ====
/-
  Words that hold a label: what the reference's comparisons say of them, and its gathers and its scatter read at one element.
-/
module

public import proofs.«01_k».proof.Proof.Gen.ReferenceIdeal.Read
public import proofs.«01_k».proof.Proof.Arith
public import Idealize.ShloMosaic.Lib.Routing.Ops
public import Idealize.ShloMosaic.Lib.Routing.OpsPair
public import Idealize.ShloMosaic.Lib.Pipeline.ValueKit

@[expose] public section

set_option maxRecDepth 16384

noncomputable section

namespace Cert.Proof.Val.Ref

open Cert.ReferenceIdeal Cert.ReferenceIdeal.Gen Cert.ReferenceIdeal.Read
open Idealize.ShloMosaic Idealize.ShloMosaic.ValueIdx

/-! ## A word that holds a label -/

theorem int_small {w : BitVec 32} (h : w.toNat < 1000) : w.toInt = (w.toNat : ℤ) := BitVec.toInt_eq_toNat_of_lt (by omega)

theorem ne_minus {w : BitVec 32} (h : w.toNat < 1000) : IntOp.cmpi .ne w 4294967295#32 = 1#1 := by
  have e : w ≠ 4294967295#32 := fun e => by rw [e] at h; exact absurd h (by decide)
  have : (w != 4294967295#32) = true := bne_iff_ne.mpr e
  show BitVec.ofBool (w != 4294967295#32) = 1#1
  rw [this]; rfl

theorem slt_zero {w : BitVec 32} (h : w.toNat < 1000) : IntOp.cmpi .slt w 0#32 = 0#1 := by
  show BitVec.ofBool (w.slt 0#32) = 0#1
  have : w.slt 0#32 = false := by
    unfold BitVec.slt; rw [int_small h]; exact decide_eq_false (by simp)
  rw [this]; rfl

theorem sge_zero {w : BitVec 32} (h : w.toNat < 1000) : IntOp.cmpi .sge w 0#32 = 1#1 := by
  show BitVec.ofBool ((0#32).sle w) = 1#1
  have : (0#32).sle w = true := by
    unfold BitVec.sle; rw [int_small h]; exact decide_eq_true (by simp)
  rw [this]; rfl

theorem sle_last {w : BitVec 32} (h : w.toNat < 1000) : IntOp.cmpi .sle w 999#32 = 1#1 := by
  show BitVec.ofBool (w.sle 999#32) = 1#1
  have : w.sle 999#32 = true := by
    unfold BitVec.sle; rw [int_small h]
    exact decide_eq_true (by rw [show (999#32 : BitVec 32).toInt = 999 from by decide]; omega)
  rw [this]; rfl

theorem max_zero {w : BitVec 32} (h : w.toNat < 1000) : IntOp.maxsi 0#32 w = w := by
  unfold IntOp.maxsi
  have : w.slt 0#32 = false := by
    unfold BitVec.slt; rw [int_small h]; exact decide_eq_false (by simp)
  rw [if_neg (by rw [this]; exact Bool.false_ne_true)]

/-! ## The gathers and the scatter -/

theorem along {α : Type} (x : S16384x1000.Idx → α) (idx : IVec S16384x1x1 32) (p : Fin 16384) (z : Fin 1) (v : Fin 1000)
    (h : (idx (ValueIdx.ix3 p (0 : Fin 1) (0 : Fin 1))).toInt.toNat = v.val) :
    Host.gather gather_S16384x1000_S16384x1x1_S16384x1_n_1_0_0_1_2_11 x idx (ValueIdx.ix2 p z) = x (ValueIdx.ix2 p v) := by
  obtain rfl : z = 0 := Subsingleton.elim _ _
  unfold Host.gather
  refine congrArg x (funext fun a => Fin.ext ?_)
  match a with
  | ⟨0, _⟩ =>
    show GatherDims.start _ _ idx 0 + GatherDims.batchCoord _ _ 0 + GatherDims.offCoord _ _ 0 = p.val
    rw [GatherDims.start_batching _ _ _ _ (show (0 : Fin 2) ∈ [(0 : Fin 2)] by decide), GatherDims.offCoord_eq_zero _ _ _ (by decide)]
    rw [Nat.zero_add, Nat.add_zero]
    rfl
  | ⟨1, _⟩ =>
    show GatherDims.start _ _ idx 1 + GatherDims.batchCoord _ _ 1 + GatherDims.offCoord _ _ 1 = v.val
    rw [GatherDims.batchCoord_eq_zero _ _ _ (show (1 : Fin 2) ∉ [(0 : Fin 2)] by decide), GatherDims.offCoord_eq_zero _ _ _ (by decide)]
    unfold GatherDims.start
    rw [dif_pos (show (1 : Fin 2) ∈ gather_S16384x1000_S16384x1x1_S16384x1_n_1_0_0_1_2_11.startIndexMap from List.mem_singleton.mpr rfl)]
    have e : gather_S16384x1000_S16384x1x1_S16384x1_n_1_0_0_1_2_11.siIdx (ValueIdx.ix2 p (0 : Fin 1))
        ⟨gather_S16384x1000_S16384x1x1_S16384x1_n_1_0_0_1_2_11.startIndexMap.idxOf 1, List.idxOf_lt_length_iff.2 (show (1 : Fin 2) ∈ [(1 : Fin 2)] by decide)⟩
          = ValueIdx.ix3 p (0 : Fin 1) (0 : Fin 1) := funext fun b => Fin.ext (by
      match b with
      | ⟨0, _⟩ => rfl
      | ⟨1, _⟩ => rfl
      | ⟨2, _⟩ => rfl)
    rw [e, h]
    show min v.val 999 + 0 + 0 = v.val
    have := v.isLt
    omega

theorem taken {α : Type} (x : S1000.Idx → α) (idx : IVec S16384x1 32) (p : Fin 16384) (v : Fin 1000)
    (h : (idx (ValueIdx.ix2 p (0 : Fin 1))).toInt.toNat = v.val) :
    Host.gather gather_S1000_S16384x1_S16384_n_0_n_n_0_1_1 x idx (ValueIdx.ix1 p) = x (ValueIdx.ix1 v) := by
  have e := StableHlo.Predicate.gather_take gather_S1000_S16384x1_S16384_n_0_n_n_0_1_1 rfl rfl rfl rfl x idx p (by decide)
  have e1 : (Shape.Idx.ofFin p : S16384.Idx) = ValueIdx.ix1 p := (ValueIdx.eq_ix1 _).trans (congrArg ValueIdx.ix1 (Shape.Idx.ofFin_zero p))
  have e2 : (StableHlo.Predicate.ixP p : S16384x1.Idx) = ValueIdx.ix2 p (0 : Fin 1) := funext fun b => by
    match b with
    | ⟨0, _⟩ => rfl
    | ⟨1, _⟩ => rfl
  rw [e1] at e
  rw [e]
  refine congrArg x ((ValueIdx.eq_ix1 _).trans (congrArg ValueIdx.ix1 ?_))
  rw [Shape.Idx.ofFin_zero]
  refine Fin.ext ?_
  show min (idx (StableHlo.Predicate.ixP p)).toInt.toNat (1000 - 1) = v.val
  rw [e2, h]
  have := v.isLt
  omega

/-- Position `k`. -/
def spot (k : ℕ) : S16384.Idx := ValueIdx.ix1 (⟨k % 16384, Nat.mod_lt _ (by decide)⟩ : Fin 16384)

theorem spot_eq (p : Fin 16384) : spot p.val = ValueIdx.ix1 p := by
  unfold spot
  congr 1
  exact Fin.ext (Nat.mod_eq_of_lt p.isLt)

theorem count_spot (l : S16384.Idx → ℕ) (v : ℕ) : Nat.count (fun k => l (spot k) = v) 16384 = num l v := by
  rw [Nat.count_eq_card_filter_range]
  refine Finset.card_bij' (fun k _ => spot k) (fun i _ => (i 0).val) (fun k hk => ?_) (fun i hi => ?_) (fun k hk => ?_) (fun i _ => ?_)
  · exact Finset.mem_filter.mpr ⟨Finset.mem_univ _, (Finset.mem_filter.mp hk).2⟩
  · refine Finset.mem_filter.mpr ⟨Finset.mem_range.mpr (i 0).isLt, ?_⟩
    rw [show spot (i 0).val = i from (spot_eq (i 0)).trans (ValueIdx.eq_ix1 i).symm]; exact (Finset.mem_filter.mp hi).2
  · exact Nat.mod_eq_of_lt (Finset.mem_range.mp (Finset.mem_filter.mp hk).1)
  · exact (spot_eq (i 0)).trans (ValueIdx.eq_ix1 i).symm

/-- Ones scattered onto zeros: how many positions have the label. -/
theorem tally (x0 : IVec S1001 32) (idx : IVec S16384x1 32) (u : IVec S16384 32) (hx : ∀ i, x0 i = 0#32) (hu : ∀ i, u i = 1#32)
    (l : S16384.Idx → ℕ) (hl : ∀ p : Fin 16384, (idx (ValueIdx.ix2 p (0 : Fin 1))).toInt = (l (ValueIdx.ix1 p) : ℤ)) (v : Fin 1001) :
    Host.scatter scatter_S1001_S16384x1_S16384_n_0_0_1 IntOp.addi x0 idx u (ValueIdx.ix1 v) = BitVec.ofNat 32 (num l v.val) := by
  have lands (p : Fin 16384) : scatter_S1001_S16384x1_S16384_n_0_0_1.resultIdx? (ValueIdx.ix1 p) idx = some (ValueIdx.ix1 v) ↔ l (ValueIdx.ix1 p) = v.val := by
    rw [Routing.resultIdx?_ix1 (N := 1001)]
    have e1 : scatter_S1001_S16384x1_S16384_n_0_0_1.window (ValueIdx.ix1 p) 0 = 0 := rfl
    have e2 : scatter_S1001_S16384x1_S16384_n_0_0_1.start (ValueIdx.ix1 p) idx 0 = (l (ValueIdx.ix1 p) : ℤ) := by
      rw [← hl p]
      show (idx _).toInt = _
      congr 2
      funext b
      match b with
      | ⟨0, _⟩ => rfl
      | ⟨1, _⟩ => rfl
    rw [e1, e2]
    omega
  rw [Routing.scatter_at, hx]
  have fold : ∀ (L : List (Fin S16384.numel)) (z : ℕ),
      L.foldl (fun a n => if scatter_S1001_S16384x1_S16384_n_0_0_1.resultIdx? (S16384.rowMajor.symm n) idx = some (ValueIdx.ix1 v)
        then IntOp.addi a (u (S16384.rowMajor.symm n)) else a) (BitVec.ofNat 32 z)
      = BitVec.ofNat 32 (z + L.countP fun n => decide (l (spot n.val) = v.val)) := fun L => by
    induction L with
    | nil => intro z; rfl
    | cons n L ih =>
      intro z
      have e : S16384.rowMajor.symm n = ValueIdx.ix1 (n.cast (Routing.numel1 16384)) := Routing.symm1 (N := 16384) n
      have e' : spot n.val = ValueIdx.ix1 (n.cast (Routing.numel1 16384)) := spot_eq (n.cast (Routing.numel1 16384))
      rw [List.foldl_cons, List.countP_cons]
      by_cases hn : l (spot n.val) = v.val
      · rw [if_pos (by rw [e, lands, ← e']; exact hn), if_pos (decide_eq_true hn), hu,
          show IntOp.addi (BitVec.ofNat 32 z) 1#32 = BitVec.ofNat 32 (z + 1) from (BitVec.ofNat_add z 1).symm, ih]
        congr 1; omega
      · rw [if_neg (by rw [e, lands, ← e']; exact hn), if_neg (by simpa using hn), ih]; rfl
  refine (fold _ 0).trans ?_
  rw [Nat.zero_add, Routing.countP_finRange _ (fun k => l (spot k) = v.val), Routing.numel1, count_spot]

end Cert.Proof.Val.Ref
-- ==== Proof.RVal.lean ====
/-
  What the reference computes, over the extended reals, when the labels are in range and the scores are real numbers.
-/
module

public import proofs.«01_k».proof.Proof.Words
public import Idealize.ShloMosaic.Lib.ReduceAll
public import Idealize.ShloMosaic.Lib.ValueIdxRank1

@[expose] public section

set_option maxRecDepth 16384

noncomputable section

namespace Cert.Proof.Val.Ref

open Cert.ReferenceIdeal Cert.ReferenceIdeal.Gen Cert.ReferenceIdeal.Read
open Idealize.ShloMosaic

variable (x0 : (⟨S16384x1000, .f32⟩ : BufTy).Contents (Elt Ideal)) (x1 : (⟨S16384, .i32⟩ : BufTy).Contents (Elt Ideal))

/-- The labels as numbers. -/
abbrev lab (i : S16384.Idx) : ℕ := BitVec.toNat (w := 32) (x1 i)

section Labels
variable (hl : ∀ i, lab x1 i < 1000)
include hl

theorem v1_at (i : S16384.Idx) : val_main_v1 (F := Ideal) x1 i = 1#1 := by
  rw [val_main_v1_apply, val_main_v0_apply, val_main_c_apply]
  exact ne_minus (hl i)

theorem v4_at (i : S16384.Idx) : val_main_v4 (F := Ideal) x1 i = x1 i := by
  rw [val_main_v4_apply, val_main_v2_apply, v1_at x1 hl]
  exact max_zero (hl i)

theorem v9_at (i : S16384.Idx) : val_main_v9 (F := Ideal) x1 i = x1 i := by
  rw [val_main_v9_apply, val_main_v6_apply, v4_at x1 hl, val_main_v5_apply, val_main_c_3_apply]
  rw [show IntOp.cmpi .slt (x1 i) 0#32 = 0#1 from slt_zero (hl i)]
  rfl

theorem v24_at (i : S16384.Idx) : val_main_v24 (F := Ideal) x1 i = x1 i := by
  rw [val_main_v24_apply, v1_at x1 hl]
  rfl

theorem v34_at (i : S16384.Idx) : val_main_v34 (F := Ideal) x1 i = x1 i := by
  rw [val_main_v34_apply, val_main_v31_apply, v24_at x1 hl, val_main_v30_apply, val_main_c_9_apply]
  rw [show IntOp.cmpi .slt (x1 i) 0#32 = 0#1 from slt_zero (hl i)]
  rfl

theorem v26_at (i : S16384x1.Idx) : val_main_v26 (F := Ideal) x1 i = x1 (idx_main_v26 i) := by
  rw [val_main_v26_apply, v24_at x1 hl]

theorem call5_v4_at (i : S16384x1.Idx) : val_main_call5_v4 (F := Ideal) x1 i = x1 (idx_main_v26 i) := by
  rw [val_main_call5_v4_apply, val_main_call5_v1_apply, v26_at x1 hl, val_main_call5_v0_apply, val_main_call5_c_apply]
  rw [show IntOp.cmpi .slt (x1 (idx_main_v26 i)) 0#32 = 0#1 from slt_zero (hl _)]
  rfl

theorem call5_v12_at (i : S16384x1.Idx) : val_main_call5_v12 (F := Ideal) x1 i = 1#1 := by
  unfold val_main_call5_v12
  refine Host.reduce_andi_one _ _ _ _ _ rfl fun k => ?_
  rw [val_main_call5_v11_apply, val_main_call5_v7_apply, val_main_call5_v10_apply, val_main_call5_v5_apply, call5_v4_at x1 hl]
  rw [show IntOp.cmpi .sge (x1 (idx_main_v26 (idx_main_call5_v5 k))) (val_main_call5_v6 (F := Ideal) k) = 1#1 from sge_zero (hl _),
    show IntOp.cmpi .sle (x1 (idx_main_v26 (idx_main_call5_v5 k))) (val_main_call5_v9 (F := Ideal) k) = 1#1 from sle_last (hl _)]
  rfl

/-- The number of valid labels: all. -/
theorem v15_at (i : S_.Idx) : val_main_v15 (F := Ideal) x1 i = 16384#32 := by
  obtain rfl : i = ValueIdx.ix0 := ValueIdx.eq_ix0 i
  have h := Routing.reduce_sum (N := 16384) (val_main_v14 (F := Ideal) x1) (fun _ => 1)
    (fun p => by rw [val_main_v14_apply, v1_at x1 hl]; rfl) reducesTo_S16384_S_d0 h_S_
  refine h.trans ?_
  rw [List.map_const', List.sum_replicate, List.length_range]
  rfl

/-- A label's count. -/
theorem v13_at (v : Fin 1000) : val_main_v13 (F := Ideal) x1 (ValueIdx.ix1 v) = BitVec.ofNat 32 (num (lab x1) v.val) := by
  rw [val_main_v13_apply]
  have e : idx_main_v13 (ValueIdx.ix1 v) = ValueIdx.ix1 (⟨v.val, v.isLt.trans (by decide)⟩ : Fin 1001) := funext fun a => by
    match a with
    | ⟨0, _⟩ => rfl
  rw [e]
  unfold val_main_v12
  refine tally _ _ _ (fun i => ?_) (fun i => ?_) (lab x1) (fun p => ?_) _
  · rw [val_main_v3_apply, val_main_c_1_apply]
  · rw [val_main_v11_apply, val_main_c_5_apply]
  · rw [val_main_v10_apply, v9_at x1 hl]
    rw [show idx_main_v10 (ValueIdx.ix2 p (0 : Fin 1)) = ValueIdx.ix1 p from funext fun a => by
      match a with
      | ⟨0, _⟩ => rfl]
    exact int_small (hl _)

theorem num_le (v : ℕ) : num (lab x1) v ≤ 16384 := by
  rw [← count_spot]; exact Nat.count_le _

theorem int_num (v : ℕ) : (BitVec.ofNat 32 (num (lab x1) v)).toInt = (num (lab x1) v : ℤ) := by
  have h := num_le x1 hl v
  rw [BitVec.toInt_eq_toNat_of_lt (by rw [BitVec.toNat_ofNat]; omega), BitVec.toNat_ofNat, Nat.mod_eq_of_lt (by omega)]

/-- A present label's weight. -/
theorem v23_at (v : Fin 1000) (hv : 0 < num (lab x1) v.val) :
    val_main_v23 (F := Ideal) x1 (ValueIdx.ix1 v) = ((16384 / (num (lab x1) v.val : ℝ) : ℝ) : EReal) := by
  have hi := int_num x1 hl v.val
  have hn : (num (lab x1) v.val : ℝ) ≠ 0 := by exact_mod_cast hv.ne'
  rw [val_main_v23_apply, val_main_v21_apply, v13_at x1 hl, val_main_v20_apply, val_main_c_7_apply]
  have hp : IntOp.cmpi .sgt (BitVec.ofNat 32 (num (lab x1) v.val)) 0#32 = 1#1 := by
    show BitVec.ofBool ((0#32).slt (BitVec.ofNat 32 (num (lab x1) v.val))) = 1#1
    have : (0#32).slt (BitVec.ofNat 32 (num (lab x1) v.val)) = true := by
      unfold BitVec.slt; rw [hi]; exact decide_eq_true (by rw [show (0#32 : BitVec 32).toInt = 0 from by decide]; exact_mod_cast hv)
    rw [this]; rfl
  rw [hp, ValueIdx.select_one, val_main_v19_apply, val_main_v18_apply, val_main_v16_apply, v15_at x1 hl, val_main_v17_apply, v13_at x1 hl]
  show Ideal.div (((16384#32 : BitVec 32).toInt : ℝ) : EReal) (((BitVec.ofNat 32 (num (lab x1) v.val)).toInt : ℝ) : EReal) = _
  rw [hi, show (16384#32 : BitVec 32).toInt = 16384 from by decide]
  push_cast
  exact div_real _ _ hn

/-- A position's weight. -/
theorem v38_at (p : Fin 16384) :
    val_main_v38 (F := Ideal) x1 (ValueIdx.ix1 p) = ((16384 / (num (lab x1) (lab x1 (ValueIdx.ix1 p)) : ℝ) : ℝ) : EReal) := by
  rw [val_main_v38_apply, val_main_v37_apply, v1_at x1 hl]
  unfold val_main_v36
  rw [taken _ _ p (⟨lab x1 (ValueIdx.ix1 p), hl _⟩ : Fin 1000) (by
    rw [val_main_v35_apply, v34_at x1 hl]
    rw [show idx_main_v35 (ValueIdx.ix2 p (0 : Fin 1)) = ValueIdx.ix1 p from funext fun a => by
      match a with
      | ⟨0, _⟩ => rfl]
    rw [show BitVec.toInt (n := 32) (x1 (ValueIdx.ix1 p)) = (lab x1 (ValueIdx.ix1 p) : ℤ) from int_small (hl _)]
    exact Int.toNat_natCast _)]
  rw [v23_at x1 hl (⟨lab x1 (ValueIdx.ix1 p), hl _⟩ : Fin 1000) (num_pos (lab x1) (ValueIdx.ix1 p))]
  refine (congrArg (_ * ·) ?_).trans (mul_one _)
  show (((1#1 : BitVec 1).toNat : ℝ) : EReal) = 1
  rw [show (1#1 : BitVec 1).toNat = 1 from rfl, Nat.cast_one, EReal.coe_one]

end Labels

/-! ## The losses -/

variable (r : Fin 16384 → Fin 1000 → ℝ) (hr : ∀ p k, x0 (ValueIdx.ix2 p k) = (r p k : EReal))
include hr

/-- A row's greatest score is a real number. -/
theorem call4_v2_real (p : Fin 16384) : ∃ M : ℝ, val_main_call4_v2 (F := Ideal) x0 (ValueIdx.ix1 p) = (M : EReal) := by
  rw [val_main_call4_v2_apply, val_main_call4_v1_apply, val_main_call4_cst_0_apply]
  have h : val_main_call4_v0 (F := Ideal) x0 (ValueIdx.ix1 p)
      = (Finset.univ : Finset (Fin 1000)).fold max ⊥ fun k => (r p k : EReal) := by
    pointwise [val_main_call4_v0, val_main_call4_cst]
    rw [bot_bits]
    congr 1
    funext k
    exact (congrArg x0 (funext fun a => by
      match a with
      | ⟨0, _⟩ => rfl
      | ⟨1, _⟩ => rfl)).trans (hr p k)
  obtain ⟨M, hM⟩ := fold_max_real (Finset.univ : Finset (Fin 1000)) (r p) Finset.univ_nonempty
  refine ⟨M, ?_⟩
  rw [h, hM]
  show max (Ideal.ofBits .f32 0xFF800000#32) (M : EReal) = _
  rw [bot_bits]; exact max_eq_right bot_le

theorem v29_at (hl : ∀ i, lab x1 i < 1000) (p : Fin 16384) :
    val_main_v29 (F := Ideal) x0 x1 (ValueIdx.ix1 p) = ((loss (r p) ⟨lab x1 (ValueIdx.ix1 p), hl _⟩ : ℝ) : EReal) := by
  obtain ⟨M, hM⟩ := call4_v2_real x0 r hr p
  have h5 (k : Fin 1000) : val_main_call4_v5 (F := Ideal) x0 (ValueIdx.ix2 p k) = (r p k : EReal) - (M : EReal) := by
    rw [val_main_call4_v5_apply, val_main_call4_v4_apply, val_main_call4_v3_apply, hr]
    rw [show idx_main_call4_v3 (idx_main_call4_v4 (ValueIdx.ix2 p k)) = ValueIdx.ix1 p from funext fun a => by
      match a with
      | ⟨0, _⟩ => rfl]
    rw [hM]; rfl
  have h7 : val_main_call4_v7 (F := Ideal) x0 (ValueIdx.ix1 p) = ∑ k : Fin 1000, Ideal.exp ((r p k : EReal) - (M : EReal)) := by
    rw [val_main_call4_v7_apply, val_main_call4_cst_1_apply]
    rw [show (FloatOps.ofBits .f32 0x00000000#32 : Ideal .f32) = (0 : EReal) from Ideal.ofBits_zero_f32]
    refine (zero_add _).trans (Finset.sum_congr rfl fun k _ => ?_)
    rw [val_main_call4_v6_apply]
    rw [show idx_main_call4_v7 (ValueIdx.ix1 p) k = ValueIdx.ix2 p k from funext fun a => by
      match a with
      | ⟨0, _⟩ => rfl
      | ⟨1, _⟩ => rfl]
    rw [h5]; rfl
  rw [val_main_v29_apply, val_main_v28_apply]
  have e28 : idx_main_v28 (ValueIdx.ix1 p) = ValueIdx.ix2 p (0 : Fin 1) := funext fun a => by
    match a with
    | ⟨0, _⟩ => exact Fin.ext (by show _ = p.val; simp)
    | ⟨1, _⟩ => exact Subsingleton.elim (α := Fin 1) _ _
  rw [e28, val_main_v27_apply, call5_v12_at x1 hl, ValueIdx.select_one]
  unfold val_main_call5_v13
  rw [along _ _ p (0 : Fin 1) (⟨lab x1 (ValueIdx.ix1 p), hl _⟩ : Fin 1000) (by
    rw [val_main_call5_v5_apply, call5_v4_at x1 hl]
    rw [show idx_main_v26 (idx_main_call5_v5 (ValueIdx.ix3 p (0 : Fin 1) (0 : Fin 1))) = ValueIdx.ix1 p from funext fun a => by
      match a with
      | ⟨0, _⟩ => exact Fin.ext (by show _ = p.val; simp)]
    rw [show BitVec.toInt (n := 32) (x1 (ValueIdx.ix1 p)) = (lab x1 (ValueIdx.ix1 p) : ℤ) from int_small (hl _)]
    exact Int.toNat_natCast _)]
  rw [val_main_v25_apply, h5, val_main_call4_v10_apply, val_main_call4_v9_apply, val_main_call4_v8_apply]
  rw [show idx_main_call4_v8 (idx_main_call4_v10 (ValueIdx.ix2 p (⟨lab x1 (ValueIdx.ix1 p), hl _⟩ : Fin 1000))) = ValueIdx.ix1 p from funext fun a => by
    match a with
    | ⟨0, _⟩ => rfl]
  rw [h7]
  exact loss_reference (r p) _ M

/-- The reference's result: the weighted losses' sum over the weights' sum. -/
theorem v42_at (hl : ∀ i, lab x1 i < 1000) (i : S_.Idx) :
    val_main_v42 (F := Ideal) x0 x1 i
      = (((∑ p : Fin 16384, 16384 / (num (lab x1) (lab x1 (ValueIdx.ix1 p)) : ℝ) * loss (r p) ⟨lab x1 (ValueIdx.ix1 p), hl _⟩)
          / ∑ p : Fin 16384, 16384 / (num (lab x1) (lab x1 (ValueIdx.ix1 p)) : ℝ) : ℝ) : EReal) := by
  rw [val_main_v42_apply, val_main_v40_apply, val_main_v41_apply]
  have e40 : (∑ j : S16384.Idx, val_main_v39 (F := Ideal) x0 x1 j)
      = ((∑ p : Fin 16384, 16384 / (num (lab x1) (lab x1 (ValueIdx.ix1 p)) : ℝ) * loss (r p) ⟨lab x1 (ValueIdx.ix1 p), hl _⟩ : ℝ) : EReal) := by
    rw [← sum_real, ← Equiv.sum_comp (ValueIdx.idxEquiv1 (n := 16384)).symm]
    refine Finset.sum_congr rfl fun p _ => ?_
    show val_main_v39 (F := Ideal) x0 x1 (ValueIdx.ix1 p) = _
    rw [val_main_v39_apply, v38_at x1 hl, v29_at x0 x1 r hr hl]
    exact (EReal.coe_mul _ _).symm
  have e41 : (∑ j : S16384.Idx, val_main_v38 (F := Ideal) x1 j)
      = ((∑ p : Fin 16384, 16384 / (num (lab x1) (lab x1 (ValueIdx.ix1 p)) : ℝ) : ℝ) : EReal) := by
    rw [← sum_real, ← Equiv.sum_comp (ValueIdx.idxEquiv1 (n := 16384)).symm]
    exact Finset.sum_congr rfl fun p _ => v38_at x1 hl p
  rw [val_main_cst_11_apply, val_main_cst_12_apply]
  rw [show (FloatOps.ofBits .f32 0x00000000#32 : Ideal .f32) = (0 : EReal) from Ideal.ofBits_zero_f32]
  refine (congrArg₂ Ideal.div ((zero_add _).trans e40) ((zero_add _).trans e41)).trans ?_
  refine div_real _ _ (ne_of_gt (Finset.sum_pos (fun p _ => ?_) Finset.univ_nonempty))
  exact div_pos (by norm_num) (by exact_mod_cast num_pos (lab x1) (ValueIdx.ix1 p))

end Cert.Proof.Val.Ref
-- ==== Proof.Value.lean ====
/-
  The program and the reference compute one number, over the extended reals.
-/
module

public import proofs.«01_k».proof.Proof.KVal
public import proofs.«01_k».proof.Proof.RVal
public import proofs.«01_k».proof.Proof.Inputs

@[expose] public section

set_option maxRecDepth 16384

noncomputable section

namespace Cert.Proof.Val

open Cert.KernelIdeal Cert.KernelIdeal.Gen Cert.Proof.Sc
open Idealize.ShloMosaic Idealize.ShloMosaic.TcCoe Idealize.SL.Sem

/-- A sum over the positions is the sum over their indices. -/
theorem sum_at (f : S16384.Idx → ℝ) : (∑ p : Fin 16384, f (ValueIdx.ix1 p)) = ∑ i, f i :=
  Equiv.sum_comp (ValueIdx.idxEquiv1 (n := 16384)).symm f

/-- The losses over the counts, over the labels present, are the weighted losses over the weights. -/
theorem mean_eq (lbl : S16384.Idx → BitVec 32) (hl : ∀ i, lab lbl i < 1000) (r : Fin 16384 → Fin 1000 → ℝ) :
    Ideal.div
      (∑ p : Fin 16384, Ideal.div ((loss (r p) ⟨lab lbl (ValueIdx.ix1 p), hl _⟩ : ℝ) : EReal) (cntF (F := Ideal) lbl (ValueIdx.ix1 p)))
      (∑ k : Fin 16, presF (F := Ideal) lbl (ValueIdx.ix1 k))
    = (((∑ p : Fin 16384, 16384 / (num (lab lbl) (lab lbl (ValueIdx.ix1 p)) : ℝ) * loss (r p) ⟨lab lbl (ValueIdx.ix1 p), hl _⟩)
        / ∑ p : Fin 16384, 16384 / (num (lab lbl) (lab lbl (ValueIdx.ix1 p)) : ℝ) : ℝ) : EReal) := by
  have e1 : (∑ p : Fin 16384, Ideal.div ((loss (r p) ⟨lab lbl (ValueIdx.ix1 p), hl _⟩ : ℝ) : EReal) (cntF (F := Ideal) lbl (ValueIdx.ix1 p)))
      = ((∑ p : Fin 16384, loss (r p) ⟨lab lbl (ValueIdx.ix1 p), hl _⟩ / (num (lab lbl) (lab lbl (ValueIdx.ix1 p)) : ℝ) : ℝ) : EReal) := by
    rw [← sum_real]
    refine Finset.sum_congr rfl fun p _ => ?_
    rw [cntF_num lbl hl]
    exact div_real _ _ (by exact_mod_cast (num_pos (lab lbl) (ValueIdx.ix1 p)).ne')
  haveI : Nonempty S16384.Idx := ⟨ValueIdx.ix1 (0 : Fin 16384)⟩
  rw [e1, presF_total lbl hl, ← sum_inv_num (lab lbl) 1024 fun i => (hl i).trans (by norm_num), div_real _ _ (sum_inv_pos (lab lbl)).ne']
  rw [sum_at fun i => loss (r (i 0)) ⟨lab lbl i, hl i⟩ / (num (lab lbl) (lab lbl i) : ℝ),
    sum_at fun i => 16384 / (num (lab lbl) (lab lbl i) : ℝ) * loss (r (i 0)) ⟨lab lbl i, hl i⟩,
    sum_at fun i => 16384 / (num (lab lbl) (lab lbl i) : ℝ)]
  rw [mean_scaled (lab lbl) (fun i => loss (r (i 0)) ⟨lab lbl i, hl i⟩) 16384 (by norm_num)]

/-- A finite score is a real number. -/
theorem real_of_lt (x : FVec Ideal S16384x1000 .f32) (j : S16384x1000.Idx)
    (h : cmpf .olt (Host.absf x) (fun _ => FloatOps.ofBits .f32 0x7F800000#32) j = 1#1) : ∃ r : ℝ, (x j : EReal) = (r : EReal) := by
  refine real_of_abs ?_
  by_contra hn
  have e : cmpf .olt (Host.absf x) (fun _ => FloatOps.ofBits .f32 0x7F800000#32) j
      = BitVec.ofBool (decide ((max (x j : EReal) (-(x j : EReal))) < Ideal.ofBits .f32 0x7F800000#32)) := rfl
  rw [e, top_bits, decide_eq_false hn] at h
  exact absurd h (by decide)

end Cert.Proof.Val

namespace Cert.Proof

open Cert.Proof.Val
open Idealize.ShloMosaic Idealize.ShloMosaic.TcCoe Idealize.SL.Sem

theorem algebraic : Cert.algebraic_KernelIdeal_ReferenceIdeal_pre_inputs := fun m g m' g' hp hm => by
  have hl : ∀ (d : Dev Cert.KernelIdeal.nD) i, lab (Sc.lblB m d) i < 1000 := fun d i => (inputs_of _ _ (hp d)).1 i
  have hx : ∀ (d : Dev Cert.KernelIdeal.nD) (p : Fin 16384) (k : Fin 1000), ∃ r : ℝ, scores m d (ValueIdx.ix2 p k) = (r : EReal) :=
    fun d p k => real_of_lt _ (ValueIdx.ix2 p k) ((inputs_of _ _ (hp d)).2 (ValueIdx.ix2 p k))
  choose r hr using hx
  refine ⟨fun d => Sc.V7 m d Sc.v6', ?_, ?_⟩
  · exact (θ_run Cert.KernelIdeal.defs _ _).mono (fun _ h c => ⟨(h.1 c).2.2, (h.1 c).1, (h.1 c).2.1⟩)
      (Sc.run_main (F := Ideal) m g hl)
  · refine (θ_run Cert.ReferenceIdeal.defs _ _).mono (fun q h c => ⟨(h c).1.trans ?_, (h c).2.1, (h c).2.2⟩) (Cert.ReferenceIdeal.Value.run m' g')
    refine (Cert.ReferenceIdeal.Read.val_main_v42_eq m' c).trans (funext fun j => ?_)
    have hm0 := (hm c).1
    have hm1 := (hm c).2
    refine (congrFun (congrArg₂ (Cert.ReferenceIdeal.Read.val_main_v42 (F := Ideal)) hm0 hm1) j).trans ?_
    refine (Ref.v42_at _ _ (r c) (hr c) (hl c) j).trans ?_
    exact ((V7_v6 m c (hl c) (r c) (hr c) j).trans (mean_eq _ (hl c) (r c))).symm

end Cert.Proof
-- ==== Proof.lean ====
/-
  The certificate: its claims from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_labels
public import proofs.«01_k».proof.Proof.Gen.Pre_inputs
public import proofs.«01_k».proof.Proof.Frames
public import proofs.«01_k».proof.Proof.Inputs
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_labels.Gen.facts,
    Cert.Pre_inputs.Gen.facts, frame_kernel, frame_ideal, frame_ideal_inputs, frame_ref, frame_ref_inputs, trivial, algebraic⟩

end Cert.Proof

end
